-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8192x3 : Shape := ⟨2, ![8192, 3]⟩
abbrev S8192 : Shape := ⟨1, ![8192]⟩
abbrev S_ : Shape := ⟨0, ![]⟩

class Facts : Prop where
  bcast_S_S8192x3 : S_.BroadcastsInDim S8192x3 (![] : Fin 0 → Fin S8192x3.rank)

variable [Facts]

def fn {F : FTy → Type} [FloatOps F] (main_arg0 : FVec F S8192x3 .f32) (main_arg1 : IVec S8192 1) : IVec S8192x3 1 :=
  let main_v0 : FVec F S8192x3 .f32 := Host.absf main_arg0
  let main_cst : FVec F S_ .f32 := constant S_ .f32 0x7F800000#32
  let main_v1 : FVec F S8192x3 .f32 := broadcastInDim S8192x3 ![] bcast_S_S8192x3 main_cst
  let main_v2 : IVec S8192x3 1 := cmpf .olt main_v0 main_v1
  main_v2
-- ==== Kernel.lean ====
abbrev S8192x3 : Shape := ⟨2, ![8192, 3]⟩
abbrev S8192 : Shape := ⟨1, ![8192]⟩
abbrev S_ : Shape := ⟨0, ![]⟩
abbrev S8x8192 : Shape := ⟨2, ![8, 8192]⟩
abbrev S3x8192 : Shape := ⟨2, ![3, 8192]⟩
abbrev S1 : Shape := ⟨1, ![1]⟩
abbrev S16x8192 : Shape := ⟨2, ![16, 8192]⟩
abbrev S8192x16 : Shape := ⟨2, ![8192, 16]⟩
abbrev S8192x1 : Shape := ⟨2, ![8192, 1]⟩
abbrev S131072 : Shape := ⟨1, ![131072]⟩
abbrev S8x256 : Shape := ⟨2, ![8, 256]⟩
abbrev S16x256 : Shape := ⟨2, ![16, 256]⟩
abbrev S1x256 : Shape := ⟨2, ![1, 256]⟩
abbrev S128x1 : Shape := ⟨2, ![128, 1]⟩
abbrev S128x256 : Shape := ⟨2, ![128, 256]⟩
abbrev S640x256 : Shape := ⟨2, ![640, 256]⟩
abbrev S256 : Shape := ⟨1, ![256]⟩
abbrev S1x128x256 : Shape := ⟨3, ![1, 128, 256]⟩
abbrev S1x1x1 : Shape := ⟨3, ![1, 1, 1]⟩
abbrev S8192x256 : Shape := ⟨2, ![8192, 256]⟩

abbrev nBuf : Space → Nat
  | .hbm => 27
  | .vmem => 5
  | .smem => 0
  | _ => 0

abbrev bufTy : (tb : Table) → Fin (tcTables nBuf tb) → BufTy
  | .hbm, ⟨0, _⟩ => ⟨S8192x3, .f32⟩
  | .hbm, ⟨1, _⟩ => ⟨S8192, .i1⟩
  | .hbm, ⟨2, _⟩ => ⟨S_, .f32⟩
  | .hbm, ⟨3, _⟩ => ⟨S8x8192, .f32⟩
  | .hbm, ⟨4, _⟩ => ⟨S3x8192, .f32⟩
  | .hbm, ⟨5, _⟩ => ⟨S_, .i32⟩
  | .hbm, ⟨6, _⟩ => ⟨S1, .i32⟩
  | .hbm, ⟨7, _⟩ => ⟨S8x8192, .f32⟩
  | .hbm, ⟨8, _⟩ => ⟨S16x8192, .i32⟩
  | .hbm, ⟨9, _⟩ => ⟨S8192x16, .i32⟩
  | .hbm, ⟨10, _⟩ => ⟨S8192, .i32⟩
  | .hbm, ⟨11, _⟩ => ⟨S8192x1, .i32⟩
  | .hbm, ⟨12, _⟩ => ⟨S8192x16, .i32⟩
  | .hbm, ⟨13, _⟩ => ⟨S8192x1, .i1⟩
  | .hbm, ⟨14, _⟩ => ⟨S_, .i32⟩
  | .hbm, ⟨15, _⟩ => ⟨S_, .i32⟩
  | .hbm, ⟨16, _⟩ => ⟨S8192x16, .i1⟩
  | .hbm, ⟨17, _⟩ => ⟨S8192x16, .i32⟩
  | .hbm, ⟨18, _⟩ => ⟨S8192x16, .i32⟩
  | .hbm, ⟨19, _⟩ => ⟨S8192x1, .i1⟩
  | .hbm, ⟨20, _⟩ => ⟨S_, .i32⟩
  | .hbm, ⟨21, _⟩ => ⟨S_, .i32⟩
  | .hbm, ⟨22, _⟩ => ⟨S8192x16, .i1⟩
  | .hbm, ⟨23, _⟩ => ⟨S8192x16, .i32⟩
  | .hbm, ⟨24, _⟩ => ⟨S8192x16, .i32⟩
  | .hbm, ⟨25, _⟩ => ⟨S131072, .i32⟩
  | .hbm, ⟨26, _⟩ => ⟨S131072, .i32⟩
  | .local _ .vmem, ⟨0, _⟩ => ⟨S8192x3, .f32⟩
  | .local _ .vmem, ⟨1, _⟩ => ⟨S8x256, .f32⟩
  | .local _ .vmem, ⟨2, _⟩ => ⟨S8x256, .f32⟩
  | .local _ .vmem, ⟨3, _⟩ => ⟨S16x256, .i32⟩
  | .local _ .vmem, ⟨4, _⟩ => ⟨S16x256, .i32⟩
  | _, _ => ⟨S8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_v1 : Ref sig .tc := ⟨.hbm, 4, rfl⟩
abbrev main_call0_c : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_v9 : Ref sig .tc := ⟨.hbm, 13, rfl⟩
abbrev main_call0_c_0 : Ref sig .tc := ⟨.hbm, 14, rfl⟩
abbrev main_call0_call0_v0 : Ref sig .tc := ⟨.hbm, 15, rfl⟩
abbrev main_call0_call0_v1 : Ref sig .tc := ⟨.hbm, 16, rfl⟩
abbrev main_call0_call0_v2 : Ref sig .tc := ⟨.hbm, 17, rfl⟩
abbrev main_call0_v10 : Ref sig .tc := ⟨.hbm, 18, rfl⟩
abbrev main_call0_v11 : Ref sig .tc := ⟨.hbm, 19, rfl⟩
abbrev main_call0_c_1 : Ref sig .tc := ⟨.hbm, 20, rfl⟩
abbrev main_call0_call1_v0 : Ref sig .tc := ⟨.hbm, 21, rfl⟩
abbrev main_call0_call1_v1 : Ref sig .tc := ⟨.hbm, 22, rfl⟩
abbrev main_call0_call1_v2 : Ref sig .tc := ⟨.hbm, 23, rfl⟩
abbrev main_call0_v12 : Ref sig .tc := ⟨.hbm, 24, rfl⟩
abbrev main_v0_0 : Ref sig .tc := ⟨.hbm, 25, rfl⟩
abbrev main_v0_1 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8192x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S8192x3 : Shape := ⟨2, ![8192, 3]⟩
abbrev S8192 : Shape := ⟨1, ![8192]⟩
abbrev S8192x1x3 : Shape := ⟨3, ![8192, 1, 3]⟩
abbrev S1x8192x3 : Shape := ⟨3, ![1, 8192, 3]⟩
abbrev S8192x8192x3 : Shape := ⟨3, ![8192, 8192, 3]⟩
abbrev S_ : Shape := ⟨0, ![]⟩
abbrev S8192x8192 : Shape := ⟨2, ![8192, 8192]⟩
abbrev S8192x16 : Shape := ⟨2, ![8192, 16]⟩
abbrev S8192x1 : Shape := ⟨2, ![8192, 1]⟩
abbrev S131072 : Shape := ⟨1, ![131072]⟩

abbrev nBuf : Space → Nat
  | .hbm => 30
  | .vmem => 0
  | .smem => 0
  | _ => 0

abbrev bufTy : (tb : Table) → Fin (tcTables nBuf tb) → BufTy
  | .hbm, ⟨0, _⟩ => ⟨S8192x3, .f32⟩
  | .hbm, ⟨1, _⟩ => ⟨S8192, .i1⟩
  | .hbm, ⟨2, _⟩ => ⟨S8192x1x3, .f32⟩
  | .hbm, ⟨3, _⟩ => ⟨S1x8192x3, .f32⟩
  | .hbm, ⟨4, _⟩ => ⟨S8192x8192x3, .f32⟩
  | .hbm, ⟨5, _⟩ => ⟨S8192x8192x3, .f32⟩
  | .hbm, ⟨6, _⟩ => ⟨S8192x8192x3, .f32⟩
  | .hbm, ⟨7, _⟩ => ⟨S8192x8192x3, .f32⟩
  | .hbm, ⟨8, _⟩ => ⟨S_, .f32⟩
  | .hbm, ⟨9, _⟩ => ⟨S8192x8192, .f32⟩
  | .hbm, ⟨10, _⟩ => ⟨S8192x8192, .f32⟩
  | .hbm, ⟨11, _⟩ => ⟨S8192x16, .f32⟩
  | .hbm, ⟨12, _⟩ => ⟨S8192x16, .i32⟩
  | .hbm, ⟨13, _⟩ => ⟨S8192, .i32⟩
  | .hbm, ⟨14, _⟩ => ⟨S8192x1, .i32⟩
  | .hbm, ⟨15, _⟩ => ⟨S8192x16, .i32⟩
  | .hbm, ⟨16, _⟩ => ⟨S8192x1, .i1⟩
  | .hbm, ⟨17, _⟩ => ⟨S_, .i32⟩
  | .hbm, ⟨18, _⟩ => ⟨S_, .i32⟩
  | .hbm, ⟨19, _⟩ => ⟨S8192x16, .i1⟩
  | .hbm, ⟨20, _⟩ => ⟨S8192x16, .i32⟩
  | .hbm, ⟨21, _⟩ => ⟨S8192x16, .i32⟩
  | .hbm, ⟨22, _⟩ => ⟨S8192x1, .i1⟩
  | .hbm, ⟨23, _⟩ => ⟨S_, .i32⟩
  | .hbm, ⟨24, _⟩ => ⟨S_, .i32⟩
  | .hbm, ⟨25, _⟩ => ⟨S8192x16, .i1⟩
  | .hbm, ⟨26, _⟩ => ⟨S8192x16, .i32⟩
  | .hbm, ⟨27, _⟩ => ⟨S8192x16, .i32⟩
  | .hbm, ⟨28, _⟩ => ⟨S131072, .i32⟩
  | .hbm, ⟨29, _⟩ => ⟨S131072, .i32⟩
  | _, _ => ⟨S8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_values : Ref sig .tc := ⟨.hbm, 11, rfl⟩
abbrev main_indices : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v12 : Ref sig .tc := ⟨.hbm, 21, rfl⟩
abbrev main_v13 : Ref sig .tc := ⟨.hbm, 22, rfl⟩
abbrev main_c_0 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩

abbrev nD : Nat := 1
abbrev τ : Topo := Topo.v7x

variable {F : FTy → Type} [FloatOps F]
-- ==== Proof.Ev.lean ====
/- A program that only reads two whole buffers computes a value: the relation `Ev` between such a
   program and its value, how it composes, and the triple it gives. -/
module

public import Idealize.ShloMosaic.Lib.Pipeline.FrameBody
public import Idealize.ShloMosaic.Lib.Tactic

@[expose] public section

noncomputable section

namespace Cert.Reads

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Val : EltTy → Type} {Λ : Labels}

/-- `Ev m₁ m₂ x₁ x₂ p b`: the program `p` does nothing but read boxes of the buffers `m₁` and `m₂`,
    and returns `b` when these hold `x₁` and `x₂`. -/
inductive Ev {s₁ s₂ : Shape} {e₁ e₂ : EltTy} (m₁ : Memref sig .tc .vmem s₁ e₁) (m₂ : Memref sig .tc .vmem s₂ e₂)
    (x₁ : s₁.Idx → Val e₁) (x₂ : s₂.Idx → Val e₂) : {α : Type} → Prog (TpuEff nD τ sig Val Λ .tc) α → α → Prop
  | ret {α : Type} (a : α) : Ev m₁ m₂ x₁ x₂ (.ret a) a
  | load₁ {α : Type} (r : Rect s₁) (hl : m₁.view.LoadsAt r.toLoadRect) (k) (b : α) :
      Ev m₁ m₂ x₁ x₂ (k (View.ld x₁ r)) b → Ev m₁ m₂ x₁ x₂ (.op (.load m₁ r.toLoadRect hl) k) b
  | load₂ {α : Type} (r : Rect s₂) (hl : m₂.view.LoadsAt r.toLoadRect) (k) (b : α) :
      Ev m₁ m₂ x₁ x₂ (k (View.ld x₂ r)) b → Ev m₁ m₂ x₁ x₂ (.op (.load m₂ r.toLoadRect hl) k) b

variable {s₁ s₂ : Shape} {e₁ e₂ : EltTy} {m₁ : Memref sig .tc .vmem s₁ e₁} {m₂ : Memref sig .tc .vmem s₂ e₂}
  {x₁ : s₁.Idx → Val e₁} {x₂ : s₂.Idx → Val e₂}

/-- A program, and then a program of its value. -/
theorem Ev.bind {α β : Type} {p : Prog (TpuEff nD τ sig Val Λ .tc) α} {k : α → Prog (TpuEff nD τ sig Val Λ .tc) β} {a : α} {b : β}
    (h : Ev m₁ m₂ x₁ x₂ p a) (h' : Ev m₁ m₂ x₁ x₂ (k a) b) : Ev m₁ m₂ x₁ x₂ (p >>= k) b := by
  induction h with
  | ret a => exact h'
  | load₁ r hl k b _ ih => exact .load₁ r hl _ _ (ih h')
  | load₂ r hl k b _ ih => exact .load₂ r hl _ _ (ih h')

/-- The same value, written otherwise. -/
theorem Ev.to {α : Type} {p : Prog (TpuEff nD τ sig Val Λ .tc) α} {a b : α} (h : Ev m₁ m₂ x₁ x₂ p a) (e : a = b) :
    Ev m₁ m₂ x₁ x₂ p b := e ▸ h

variable {Ix : Type} [DecidableEq Ix] {Name : Type} [DecidableEq Name] {U : Type} [URA U] {Lvl : Type} [Preorder Lvl]

/-- A load from a buffer held at known contents continues at those contents' box. -/
theorem load_owns {defs : Defs nD τ sig Val Λ} (𝒱 : Variants) (c : Dev nD) (bd : Option 𝒱.V) (E : Set Name) {s : Shape} {e : EltTy}
    {m : Memref sig .tc .vmem s e} {x : s.Idx → Val e} {α : Type} (r : Rect s) (hl : m.view.LoadsAt r.toLoadRect)
    (k : _ → Prog (TpuEff nD τ sig Val Λ .tc) α) (Q : α → sProp (MT nD τ sig Ix Val Name U Lvl)) (q : PosShare TreeShare) :
    iprop(owns (c : Thread nD τ) m q x ∗ (owns (c : Thread nD τ) m q x -∗ Idealize.SL.Sem.wp Idealize.ShloMosaic.frame (wpE defs 𝒱 (c : Thread nD τ) bd) E (k (View.ld x r)) Q))
      ⊢ Idealize.SL.Sem.wp Idealize.ShloMosaic.frame (wpE defs 𝒱 (c : Thread nD τ) bd) E (.op (.load m r.toLoadRect hl) k) Q := by
  unfold owns
  iintro ⟨⟨%f, %hf, H⟩, Hk⟩
  subst hf
  iapply (wp_load 𝒱 (c : Thread nD τ) bd E (View.setOn_subset_set _ _)) $$ H
  iintro H
  iapply Hk
  iexists f
  isplitr; · ipureintro; rfl
  iexact H

/-- Holding both buffers at these contents, such a program runs to the continuation at its value, both held as before. -/
theorem Ev.triple {defs : Defs nD τ sig Val Λ} (𝒱 : Variants) (c : Dev nD) (bd : Option 𝒱.V) (E : Set Name)
    {α : Type} {p : Prog (TpuEff nD τ sig Val Λ .tc) α} {b : α} (h : Ev m₁ m₂ x₁ x₂ p b)
    (Q : α → sProp (MT nD τ sig Ix Val Name U Lvl)) (q₁ q₂ : PosShare TreeShare) :
    iprop(owns (c : Thread nD τ) m₁ q₁ x₁ ∗ owns (c : Thread nD τ) m₂ q₂ x₂
        ∗ ((owns (c : Thread nD τ) m₁ q₁ x₁ ∗ owns (c : Thread nD τ) m₂ q₂ x₂) -∗ Q b))
      ⊢ Idealize.SL.Sem.wp Idealize.ShloMosaic.frame (wpE defs 𝒱 (c : Thread nD τ) bd) E p Q := by
  induction h with
  | ret a =>
    rw [wp_ret]
    iintro ⟨H₁, H₂, Hk⟩
    imodintro
    iapply Hk
    isplitl [H₁]
    · iexact H₁
    · iexact H₂
  | load₁ r hl k b _ ih =>
    iintro ⟨H₁, H₂, Hk⟩
    iapply (load_owns 𝒱 c bd E r hl k Q q₁)
    isplitl [H₁]; · iexact H₁
    iintro H₁
    iapply ih
    isplitl [H₁]; · iexact H₁
    isplitl [H₂]; · iexact H₂
    iexact Hk
  | load₂ r hl k b _ ih =>
    iintro ⟨H₁, H₂, Hk⟩
    iapply (load_owns 𝒱 c bd E r hl k Q q₂)
    isplitl [H₂]; · iexact H₂
    iintro H₂
    iapply ih
    isplitl [H₁]; · iexact H₁
    isplitl [H₂]; · iexact H₂
    iexact Hk

/-- The program reads only, and its value, whatever it is, satisfies `P`. -/
def Rd (m₁ : Memref sig .tc .vmem s₁ e₁) (m₂ : Memref sig .tc .vmem s₂ e₂) (x₁ : s₁.Idx → Val e₁) (x₂ : s₂.Idx → Val e₂)
    {α : Type} (p : Prog (TpuEff nD τ sig Val Λ .tc) α) (P : α → Prop) : Prop := ∃ b, Ev m₁ m₂ x₁ x₂ p b ∧ P b

theorem Rd.ret {α : Type} {P : α → Prop} (a : α) (h : P a) : Rd m₁ m₂ x₁ x₂ (.ret a : Prog (TpuEff nD τ sig Val Λ .tc) α) P :=
  ⟨a, .ret a, h⟩

theorem Rd.bind {α β : Type} {P : β → Prop} {p : Prog (TpuEff nD τ sig Val Λ .tc) α} {k : α → Prog (TpuEff nD τ sig Val Λ .tc) β}
    (h : Rd m₁ m₂ x₁ x₂ p fun _ => True) (h' : ∀ a, Rd m₁ m₂ x₁ x₂ (k a) P) : Rd m₁ m₂ x₁ x₂ (p >>= k) P := by
  obtain ⟨a, ha, -⟩ := h
  obtain ⟨b, hb, hP⟩ := h' a
  exact ⟨b, ha.bind hb, hP⟩

theorem Rd.load₁ {α : Type} {P : α → Prop} (r : Rect s₁) (hl : m₁.view.LoadsAt r.toLoadRect)
    (k : _ → Prog (TpuEff nD τ sig Val Λ .tc) α) (h : ∀ v, Rd m₁ m₂ x₁ x₂ (k v) P) :
    Rd m₁ m₂ x₁ x₂ (.op (.load m₁ r.toLoadRect hl) k) P := by
  obtain ⟨b, hb, hP⟩ := h (View.ld x₁ r)
  exact ⟨b, .load₁ r hl k b hb, hP⟩

theorem Rd.load₂ {α : Type} {P : α → Prop} (r : Rect s₂) (hl : m₂.view.LoadsAt r.toLoadRect)
    (k : _ → Prog (TpuEff nD τ sig Val Λ .tc) α) (h : ∀ v, Rd m₁ m₂ x₁ x₂ (k v) P) :
    Rd m₁ m₂ x₁ x₂ (.op (.load m₂ r.toLoadRect hl) k) P := by
  obtain ⟨b, hb, hP⟩ := h (View.ld x₂ r)
  exact ⟨b, .load₂ r hl k b hb, hP⟩

/-- The program, holding `m₁` and `m₂` at `x₁` and `x₂` and `m₃` at anything, ends with `m₃` at `v` and the others as they were. -/
def Leaves (Ix Name U Lvl : Type) [DecidableEq Ix] [DecidableEq Name] [URA U] [Preorder Lvl] (defs : Defs nD τ sig Val Λ) (𝒱 : Variants)
    {s₃ : Shape} {e₃ : EltTy} (m₁ : Memref sig .tc .vmem s₁ e₁) (m₂ : Memref sig .tc .vmem s₂ e₂) (m₃ : Memref sig .tc .vmem s₃ e₃)
    (x₁ : s₁.Idx → Val e₁) (x₂ : s₂.Idx → Val e₂) (p : Prog (TpuEff nD τ sig Val Λ .tc) PUnit) (v : s₃.Idx → Val e₃) : Prop :=
  ∀ (c : Dev nD) (E : Set Name) (Q : PUnit → sProp (MT nD τ sig Ix Val Name U Lvl)),
    iprop(owns (c : Thread nD τ) m₁ fullShare x₁ ∗ owns (c : Thread nD τ) m₂ fullShare x₂ ∗ (∃ d, owns (c : Thread nD τ) m₃ fullShare d)
        ∗ (iprop(owns (c : Thread nD τ) m₁ fullShare x₁ ∗ owns (c : Thread nD τ) m₂ fullShare x₂ ∗ owns (c : Thread nD τ) m₃ fullShare v) -∗ Q ⟨⟩))
      ⊢ Idealize.SL.Sem.wp Idealize.ShloMosaic.frame (wpE defs 𝒱 (c : Thread nD τ) none) E p Q

variable {defs : Defs nD τ sig Val Λ} {𝒱 : Variants} {s₃ : Shape} {e₃ : EltTy} {m₃ : Memref sig .tc .vmem s₃ e₃}

/-- Reading first changes nothing. -/
theorem Leaves.bind {α : Type} {p : Prog (TpuEff nD τ sig Val Λ .tc) α} {k : α → Prog (TpuEff nD τ sig Val Λ .tc) PUnit} {a : α}
    {v : s₃.Idx → Val e₃} (h : Ev m₁ m₂ x₁ x₂ p a) (h' : Leaves Ix Name U Lvl defs 𝒱 m₁ m₂ m₃ x₁ x₂ (k a) v) :
    Leaves Ix Name U Lvl defs 𝒱 m₁ m₂ m₃ x₁ x₂ (p >>= k) v := by
  intro c E Q
  rw [wp_bind]
  iintro ⟨H₁, H₂, H₃, Hk⟩
  iapply (h.triple 𝒱 c none E)
  isplitl [H₁]; · iexact H₁
  isplitl [H₂]; · iexact H₂
  iintro ⟨H₁, H₂⟩
  iapply (h' c E Q)
  isplitl [H₁]; · iexact H₁
  isplitl [H₂]; · iexact H₂
  isplitl [H₃]; · iexact H₃
  iexact Hk

theorem Rd.leaves {α : Type} {p : Prog (TpuEff nD τ sig Val Λ .tc) α} {k : α → Prog (TpuEff nD τ sig Val Λ .tc) PUnit} {P : α → Prop}
    (h : Rd m₁ m₂ x₁ x₂ p P) (h' : ∀ a, P a → ∃ v, Leaves Ix Name U Lvl defs 𝒱 m₁ m₂ m₃ x₁ x₂ (k a) v) :
    ∃ v, Leaves Ix Name U Lvl defs 𝒱 m₁ m₂ m₃ x₁ x₂ (p >>= k) v := by
  obtain ⟨a, ha, hP⟩ := h
  obtain ⟨v, hv⟩ := h' a hP
  exact ⟨v, .bind ha hv⟩

end Cert.Reads
end
-- ==== Proof.KernelReads.lean ====
/- The straight-line stretches of the body of the `Kernel` program only read, and the two conditions of its guarded
   stores exclude one another. -/
module

public import proofs.«01_k».proof.Proof.Gen.Kernel.Frame
public import proofs.«01_k».proof.Proof.Ev

@[expose] public section

set_option maxRecDepth 16384

noncomputable section

namespace Cert.Kernel.Hand

open Cert.Kernel Cert.Kernel.Gen Cert.Reads Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable (i : grid0.Coords) (arg1 : Memref sig .tc .vmem S8192x3 .f32) (harg1 : arg1.IsWhole)
  (arg2 : Memref sig .tc .vmem S8x256 .f32) (harg2 : arg2.IsWhole) (arg3 : Memref sig .tc .vmem S16x256 .i32) (harg3 : arg3.IsWhole)
  (x0 : Vec F S8192x3 .f32) (x1 : Vec F S8x256 .f32)

set_option maxHeartbeats 4000000 in
/-- The first stretch of the body reads only. -/
theorem reads_first : Rd arg1 arg2 x0 x1 (k0_part111 (F := F) i arg1 harg1 arg2 harg2 arg3 harg3) fun _ => True := by
  unfold k0_part111
  repeat' first
    | refine Rd.bind ?_ fun a => ?_
    | refine Rd.load₁ _ _ _ fun a => ?_
    | refine Rd.load₂ _ _ _ fun a => ?_
    | exact Rd.ret _ trivial

/-- What a body of this program leaves in the output's buffer. -/
abbrev LeavesK (p : Prog (TpuEff nD τ sig (Elt F) Λ₀ .tc) PUnit) (v : Vec F S16x256 .i32) : Prop :=
  Leaves Unit ℕ (UR sig nD τ) ℕ (defs₀ (F := F)) Variants.none arg1 arg2 arg3 x0 x1 p v

/-- The box of the whole output block. -/
abbrev whole : Rect S16x256 := Rect.unit (s := S16x256) ![0, 0] S16x256.size inb_S16x256_S16x256_0_0

/-- Storing a whole block leaves it there. -/
theorem leaves_store (w : Vec F S16x256 .i32) :
    LeavesK arg1 arg2 arg3 x0 x1 (do
      let _ : Vec F S16x256 .i32 ← Prog.lift (.load arg3 whole.toLoadRect (View.loadsAt_vmem h_S16x256))
      Prog.lift (.store arg3 whole w Finset.univ (View.stores_vmem_bits_univ h_S16x256 rfl) (.inl rfl))
      pure ⟨⟩) (View.canon [⟨whole, w⟩]) := by
  intro c E Q
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled [⟨whole, w⟩] S16x256.size (by rfl))

/-- One bit decides which of the two guarded stores runs. -/
theorem one_of_two (b : BitVec 1) :
    (Scalar.cmpi .ne (Scalar.extui (Scalar.xori b 1#1) : BitVec 32) 0#32 = 1#1 ∧ ¬ Scalar.cmpi .ne (Scalar.extui b : BitVec 32) 0#32 = 1#1)
      ∨ (¬ Scalar.cmpi .ne (Scalar.extui (Scalar.xori b 1#1) : BitVec 32) 0#32 = 1#1 ∧ Scalar.cmpi .ne (Scalar.extui b : BitVec 32) 0#32 = 1#1) := by
  revert b; decide

set_option maxHeartbeats 4000000 in
/-- The body leaves some block in the output's buffer. -/
theorem leaves_body : ∃ v, LeavesK arg1 arg2 arg3 x0 x1 (cc0__knn_block_kernel i arg1 harg1 arg2 harg2 arg3 harg3) v := by
  unfold cc0__knn_block_kernel
  refine Rd.leaves (reads_first i arg1 harg1 arg2 harg2 arg3 harg3 x0 x1) fun a _ => ?_
  refine Rd.leaves (P := fun b => b.2.2.2.2.2.2.2.2.2.2.2.2.2.2.2.2.2 = Scalar.cmpi .ne (Scalar.extui (Scalar.xori b.2.2.2.2.2.2.2.2.2.2.2.2.2.2.2.2.1 1#1) : BitVec 32) 0#32) ?_ fun b hb => ?_
  · repeat' first
      | refine Rd.bind ?_ fun a => ?_
      | refine Rd.load₁ _ _ _ fun a => ?_
      | refine Rd.load₂ _ _ _ fun a => ?_
      | exact Rd.ret _ trivial
      | exact Rd.ret _ rfl
  · obtain ⟨b0, b1, b2, b3, b4, b5, b6, b7, b8, b9, b10, b11, b12, b13, b14, b15, bad, good⟩ := b
    dsimp only at hb ⊢
    subst hb
    rcases one_of_two bad with ⟨h, h'⟩ | ⟨h, h'⟩
    · rw [if_pos h, if_neg h']
      exact ⟨_, leaves_store arg1 arg2 arg3 x0 x1 _⟩
    · rw [if_neg h, if_pos h']
      refine Rd.leaves (P := fun _ => True) ?_ fun b _ => ⟨_, leaves_store arg1 arg2 arg3 x0 x1 _⟩
      repeat' first
        | refine Rd.bind ?_ fun a => ?_
        | refine Rd.load₁ _ _ _ fun a => ?_
        | refine Rd.load₂ _ _ _ fun a => ?_
        | exact Rd.ret _ trivial

end Cert.Kernel.Hand
end
-- ==== Proof.KernelLaunch.lean ====
/- The launch of the `Kernel` program: what its body leaves at each grid point, the run, and the frame. -/
module

public import proofs.«01_k».proof.Proof.KernelReads
public import Idealize.ShloMosaic.Lib.Claim

@[expose] public section

noncomputable section

namespace Cert.Kernel.Hand

open Cert.Kernel Cert.Kernel.Gen Cert.Reads Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at point `t` leaves some block in the output's buffer, from the blocks of the two inputs. -/
theorem leaves_at (t : Fin cfg0.N) (x0 : Vec F S8192x3 .f32) (x1 : Vec F S8x256 .f32) :
    ∃ v, LeavesK (st0_0 t) (st0_1 t) (st0_2 t) x0 x1 (bodyAt0 t) v :=
  leaves_body (grid0.coords t) (st0_0 t) _ (st0_1 t) _ (st0_2 t) _ x0 x1

/-- That block. -/
def block (t : Fin cfg0.N) (x0 : Vec F S8192x3 .f32) (x1 : Vec F S8x256 .f32) : Vec F S16x256 .i32 :=
  Classical.choose (leaves_at t x0 x1)

theorem leaves_block (t : Fin cfg0.N) (x0 : Vec F S8192x3 .f32) (x1 : Vec F S8x256 .f32) :
    LeavesK (st0_0 t) (st0_1 t) (st0_2 t) x0 x1 (bodyAt0 t) (block t x0 x1) :=
  Classical.choose_spec (leaves_at t x0 x1)

/-- The proof data: each array as the region finds it; after a point's body the inputs' buffers at their blocks and
    the output's at `block`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => block t (iblk m c 0 t) (iblk m c 1 t)
  Φ _ := Pipeline.ΦA spec0 c
  q _ := fullShare
  owed _ := 0

theorem dats_A (c : Dev nD) (w : Fin cfg0.W) : (dats m 0 c).A w = V m c (Pipeline.arrRef spec0 w) := by dsimp only [dats]
theorem dats_after_0 (c : Dev nD) (t : Fin cfg0.N) : (dats m 0 c).after 0 t = iblk m c 0 t := by dsimp only [dats]
theorem dats_after_1 (c : Dev nD) (t : Fin cfg0.N) : (dats m 0 c).after 1 t = iblk m c 1 t := by dsimp only [dats]
theorem dats_after_2 (c : Dev nD) (t : Fin cfg0.N) : (dats m 0 c).after 2 t = block t (iblk m c 0 t) (iblk m c 1 t) := by
  dsimp only [dats]

/-- The point's body, from the buffers the pipeline hands it to those it hands back. -/
theorem point (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d)))
      ⊢ wp frame (wpE (defs₀ (F := F)) Variants.none c none) Set.univ (bodyAt0 t) (fun _ =>
        iprop((dats m 0 c).Φ t.succ ∗ (dats m 0 c).owesAt () t.succ
          ∗ owns (c : Thread nD τ) (st0_0 t) fullShare ((dats m 0 c).after 0 t)
          ∗ owns (c : Thread nD τ) (st0_1 t) fullShare ((dats m 0 c).after 1 t)
          ∗ owns (c : Thread nD τ) (st0_2 t) fullShare ((dats m 0 c).after 2 t))) := by
  simp only [before0_0_of m (dats m 0 c) (dats_A m c 0) (dats_after_0 m c), before0_1_of m (dats m 0 c) (dats_A m c 1) (dats_after_1 m c)]
  rw [show (dats m 0 c).Φ t.succ = (dats m 0 c).Φ t.castSucc from rfl,
    show (dats m 0 c).owesAt () t.succ = (dats m 0 c).owesAt () t.castSucc from rfl, dats_after_0, dats_after_1, dats_after_2]
  iintro ⟨HΦ, Ho, ⟨%d0, H0⟩, ⟨%d1, H1⟩, ⟨%d2, H2⟩⟩
  iapply (leaves_block t (iblk m c 0 t) (iblk m c 1 t) c Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by
    unfold defs₀; rw [Defs.onTc_tc]]
  exact triple_restated (point m c t) rfl .rfl fun _ => .rfl

set_option backward.isDefEq.respectTransparency.types false in
set_option maxHeartbeats 800000 in
/-- Every execution ends, with the arrays as the proof data say and every semaphore at zero. -/
theorem run_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := dats_A m) (hΦ := fun _ _ => rfl)

theorem run : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

/-- The arguments end as they began and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (dats_A m) (run m ρ)) ((θ_run defs _ _).mono (fun _ h => h.2) (run_quiescent m ρ))

end Cert.Kernel.Hand
-- ==== Proof.Model.lean ====
/- The values the body of the `KernelIdeal` program computes at one grid point, from the point rows `x0` (all rows)
   and the columns `x1` (the block's 256 columns): distance slices, tournaments, candidates, extractions. -/
module

public import proofs.«01_k».proof.Proof.Gen.KernelIdeal.Frame
public import proofs.«01_k».proof.Proof.Ev

@[expose] public section

noncomputable section

namespace Cert.KernelIdeal.Model

open Cert.KernelIdeal Cert.KernelIdeal.Gen Idealize.ShloMosaic

variable {F : FTy → Type} [FloatOps F] (x0 : Vec F S8192x3 .f32) (x1 : Vec F S8x256 .f32)

/-- Three times over one coordinate: row `c` of the block's columns. -/
def colRow (c : Fin 3) : FVec F S1x256 .f32 :=
  shapeCast S1x256 (View.ld x1 (Rect.unit (s := S8x256) ![c.val, 0] S1x256.size (by revert c; decide)) : Vec F S1x256 .f32)
    shapeCasts_S1x256_S1x256

/-- Coordinate `c` of the 128 points of slice `w`. -/
def pts (w : ℕ) (c : Fin 3) : Vec F S128x1 .f32 :=
  View.ld x0 (Rect.unit (s := S8192x3) ![128 * (w % 64), c.val] S128x1.size (by
    intro a
    have := Nat.mod_lt w (show 64 > 0 by decide)
    have := c.isLt
    fin_cases a
    · show 128 * (w % 64) + 128 ≤ 8192; omega
    · show c.val + 1 ≤ 3; omega))

/-- The difference in coordinate `c` between each point of slice `w` and each column's point. -/
def diff (w : ℕ) (c : Fin 3) : FVec F S128x256 .f32 :=
  subf (broadcastTo S128x256 (pts x0 w c) broadcasts_S128x1_S128x256) (broadcastTo S128x256 (colRow x1 c) broadcasts_S1x256_S128x256)

/-- The squared distances between the points of slice `w` and the columns' points. -/
def dist (w : ℕ) : FVec F S128x256 .f32 :=
  addf (addf (mulf (diff x0 x1 w 0) (diff x0 x1 w 0)) (mulf (diff x0 x1 w 1) (diff x0 x1 w 1))) (mulf (diff x0 x1 w 2) (diff x0 x1 w 2))

/-- The infinite float. -/
abbrev inf : F .f32 := Scalar.ofBits .f32 0x7F800000#32

/-- Of two values with their slices, the lower, the first on a tie. -/
def pick (a b : FVec F S128x256 .f32 × IVec S128x256 32) : FVec F S128x256 .f32 × IVec S128x256 32 :=
  (select (cmpf .olt b.1 a.1) b.1 a.1, select (cmpf .olt b.1 a.1) b.2 a.2)

/-- Level `l` of the tournament over the slices `T`: entry `a` is over slices `2^l a` to `2^l a + 2^l - 1`. -/
def level (T : ℕ → FVec F S128x256 .f32) : ℕ → ℕ → FVec F S128x256 .f32 × IVec S128x256 32
  | 0, a => (T a, broadcast S128x256 (BitVec.ofNat 32 a))
  | l + 1, a => pick (level T l (2 * a)) (level T l (2 * a + 1))

/-- The least value over 64 slices. -/
def best (T : ℕ → FVec F S128x256 .f32) : FVec F S128x256 .f32 := (level T 6 0).1
/-- The slice it is in. -/
def winner (T : ℕ → FVec F S128x256 .f32) : IVec S128x256 32 := (level T 6 0).2

/-- The slices with the tournament's winner taken out. -/
def without (T : ℕ → FVec F S128x256 .f32) (w : ℕ) : FVec F S128x256 .f32 :=
  select (cmpi .eq (winner T) (broadcast S128x256 (BitVec.ofNat 32 w))) (broadcast S128x256 inf) (T w)

/-- The slices ahead of tournament `j`. -/
def slices : ℕ → ℕ → FVec F S128x256 .f32
  | 0 => dist x0 x1
  | j + 1 => without (slices j)

/-- The values tournament `j` finds. -/
def val (j : ℕ) : FVec F S128x256 .f32 := best (slices x0 x1 j)
/-- The slices it finds them in. -/
def win (j : ℕ) : IVec S128x256 32 := winner (slices x0 x1 j)
/-- The rows it finds them at. -/
def gidx (j : ℕ) : IVec S128x256 32 :=
  addi (muli (win x0 x1 j) (broadcast S128x256 128#32)) (iota .tc S128x256 32 [0] iota_S128x256_d0_w32)

/-- The candidates' values. -/
def candV : FVec F S640x256 .f32 :=
  concatenate S640x256 0 [⟨S128x256, val x0 x1 0⟩, ⟨S128x256, val x0 x1 1⟩, ⟨S128x256, val x0 x1 2⟩, ⟨S128x256, val x0 x1 3⟩,
    ⟨S128x256, val x0 x1 4⟩] concatenates_S128x256_S128x256_S128x256_S128x256_S128x256_S640x256_d0
/-- The candidates' rows. -/
def candI : IVec S640x256 32 :=
  concatenate S640x256 0 [⟨S128x256, gidx x0 x1 0⟩, ⟨S128x256, gidx x0 x1 1⟩, ⟨S128x256, gidx x0 x1 2⟩, ⟨S128x256, gidx x0 x1 3⟩,
    ⟨S128x256, gidx x0 x1 4⟩] concatenates_S128x256_S128x256_S128x256_S128x256_S128x256_S640x256_d0

section Extract

/-- `n` rows of 256 columns. -/
abbrev Rows (n : ℕ) : Shape := ⟨2, ![n, 256]⟩

variable {n : ℕ} (hb : S1x256.Broadcasts (Rows n)) (hr : (Rows n).Reduces [0] S256)

/-- The least value of each column. -/
def minRow (V : FVec F (Rows n) .f32) : FVec F S1x256 .f32 :=
  shapeCast S1x256 (multiReduction .minimumf [0] S256 V 0x7F800000#32 hr (.inl rfl) rfl) shapeCasts_S256_S1x256

/-- The least index, of `I`, at which a column has its least value. -/
def idxRow (V : FVec F (Rows n) .f32) (I : IVec (Rows n) 32) : IVec S1x256 32 :=
  shapeCast S1x256 (multiReductionI .minsi [0] S256 (select (cmpf .oeq V (broadcastTo (Rows n) (minRow hr V) hb)) I (broadcast (Rows n) 1073741824#32))
    2147483647#32 hr rfl) shapeCasts_S256_S1x256

/-- The values after `k` of the columns' least have been taken out. -/
def left (V : FVec F (Rows n) .f32) (I : IVec (Rows n) 32) : ℕ → FVec F (Rows n) .f32
  | 0 => V
  | k + 1 => select (cmpi .eq I (broadcastTo (Rows n) (idxRow hb hr (left V I k) I) hb)) (broadcast (Rows n) inf) (left V I k)

/-- The index of the `k`-th least. -/
def row (V : FVec F (Rows n) .f32) (I : IVec (Rows n) 32) (k : ℕ) : IVec S1x256 32 := idxRow hb hr (left hb hr V I k) I

end Extract

/-- Sixteen rows, stacked. -/
def stack (r : ℕ → IVec S1x256 32) : IVec S16x256 32 :=
  concatenate S16x256 0 [⟨S1x256, r 0⟩, ⟨S1x256, r 1⟩, ⟨S1x256, r 2⟩, ⟨S1x256, r 3⟩, ⟨S1x256, r 4⟩, ⟨S1x256, r 5⟩, ⟨S1x256, r 6⟩,
    ⟨S1x256, r 7⟩, ⟨S1x256, r 8⟩, ⟨S1x256, r 9⟩, ⟨S1x256, r 10⟩, ⟨S1x256, r 11⟩, ⟨S1x256, r 12⟩, ⟨S1x256, r 13⟩, ⟨S1x256, r 14⟩,
    ⟨S1x256, r 15⟩] concatenates_S1x256_S1x256_S1x256_S1x256_S1x256_S1x256_S1x256_S1x256_S1x256_S1x256_S1x256_S1x256_S1x256_S1x256_S1x256_S1x256_S16x256_d0

/-- Row `k` of the selection among the candidates. -/
def candRow (k : ℕ) : IVec S1x256 32 :=
  row broadcasts_S1x256_S640x256 reduces_S640x256_S256 (candV x0 x1) (candI x0 x1) k

/-- The sixteenth least candidate. -/
def last : FVec F S1x256 .f32 :=
  minRow reduces_S640x256_S256 (left broadcasts_S1x256_S640x256 reduces_S640x256_S256 (candV x0 x1) (candI x0 x1) 15)

/-- Whether some strided chain may hold more of the sixteen least than its five candidates. -/
def bad : BitVec 1 :=
  Scalar.cmpf .ogt (extractAt ![0, 0, 0] (shapeCast S1x1x1 (multiReduction .maximumf [1, 2] S1 (shapeCast S1x128x256
    (select (cmpf .ole (val x0 x1 4) (broadcastTo S128x256 (last x0 x1) broadcasts_S1x256_S128x256))
      (broadcast S128x256 (Scalar.ofBits (F := F) .f32 0x3F800000#32)) (broadcast S128x256 (Scalar.ofBits (F := F) .f32 0x00000000#32)))
    shapeCasts_S128x256_S1x128x256) 0xFF800000#32 reduces_S1x128x256_S1 (.inl rfl) rfl) shapeCasts_S1_S1x1x1) inpos_S1x1x1_p0_0_0)
    (Scalar.ofBits (F := F) .f32 0x00000000#32)

theorem concatenates_all : Shape.Concatenates (((List.range 64).map fun w => (⟨S128x256, dist x0 x1 w⟩ : (s : Shape) × (s.Idx → F .f32))).map (·.1)) S8192x256 0 := by
  rw [List.map_map]; exact concatenates_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S8192x256_d0

/-- All the distances. -/
def all : FVec F S8192x256 .f32 :=
  concatenate S8192x256 0 ((List.range 64).map fun w => ⟨S128x256, dist x0 x1 w⟩) (concatenates_all x0 x1)

/-- Row `k` of the fallback's selection among all the distances. -/
def allRow (k : ℕ) : IVec S1x256 32 :=
  row broadcasts_S1x256_S8192x256 reduces_S8192x256_S256 (all x0 x1) (iota .tc S8192x256 32 [0] iota_S8192x256_d0_w32) k

/-- What the body stores. -/
def stored : IVec S16x256 32 := if bad x0 x1 = 1#1 then stack (allRow x0 x1) else stack (candRow x0 x1)

end Cert.KernelIdeal.Model
end
-- ==== Proof.FirstPart.lean ====
/- The first stretch of the body of the `KernelIdeal` program only reads: it computes the distances slice by slice, runs three
   tournaments over the slices, and takes the winners of the third out of all slices but the last. Each step names the values
   its stretch of the program hands on. -/
module

public import proofs.«01_k».proof.Proof.Gen.KernelIdeal.Frame
public import proofs.«01_k».proof.Proof.Model

@[expose] public section

set_option maxRecDepth 16384

noncomputable section

namespace Cert.KernelIdeal.Hand

open Cert.KernelIdeal Cert.KernelIdeal.Gen Cert.Reads Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable (i : grid0.Coords) (arg1 : Memref sig .tc .vmem S8192x3 .f32) (harg1 : arg1.IsWhole)
  (arg2 : Memref sig .tc .vmem S8x256 .f32) (harg2 : arg2.IsWhole) (arg3 : Memref sig .tc .vmem S16x256 .i32) (harg3 : arg3.IsWhole)
  (x0 : Vec F S8192x3 .f32) (x1 : Vec F S8x256 .f32)

set_option maxHeartbeats 40000000 in
/-- The first stretch: three tournaments, and the slices ahead of the fourth. -/
theorem first_part : Ev arg1 arg2 x0 x1 (k0_part111 i arg1 harg1 arg2 harg2 arg3 harg3)
    ⟨Model.colRow x1 0, Model.colRow x1 1, Model.colRow x1 2, iota .tc S128x256 32 [0] iota_S128x256_d0_w32,
      Model.best (Model.slices x0 x1 0),
      addi (muli (Model.winner (Model.slices x0 x1 0)) (broadcast S128x256 128#32)) (iota .tc S128x256 32 [0] iota_S128x256_d0_w32),
      Model.best (Model.slices x0 x1 1),
      addi (muli (Model.winner (Model.slices x0 x1 1)) (broadcast S128x256 128#32)) (iota .tc S128x256 32 [0] iota_S128x256_d0_w32),
      Model.slices x0 x1 2 63, Model.best (Model.slices x0 x1 2),
      addi (muli (Model.winner (Model.slices x0 x1 2)) (broadcast S128x256 128#32)) (iota .tc S128x256 32 [0] iota_S128x256_d0_w32),
      Model.slices x0 x1 3 0, Model.slices x0 x1 3 1, Model.slices x0 x1 3 2, Model.slices x0 x1 3 3, Model.slices x0 x1 3 4,
      Model.slices x0 x1 3 5, Model.slices x0 x1 3 6, Model.slices x0 x1 3 7, Model.slices x0 x1 3 8, Model.slices x0 x1 3 9,
      Model.slices x0 x1 3 10, Model.slices x0 x1 3 11, Model.slices x0 x1 3 12, Model.slices x0 x1 3 13, Model.slices x0 x1 3 14,
      Model.slices x0 x1 3 15, Model.slices x0 x1 3 16, Model.slices x0 x1 3 17, Model.slices x0 x1 3 18, Model.slices x0 x1 3 19,
      Model.slices x0 x1 3 20, Model.slices x0 x1 3 21, Model.slices x0 x1 3 22, Model.slices x0 x1 3 23, Model.slices x0 x1 3 24,
      Model.slices x0 x1 3 25, Model.slices x0 x1 3 26, Model.slices x0 x1 3 27, Model.slices x0 x1 3 28, Model.slices x0 x1 3 29,
      Model.slices x0 x1 3 30, Model.slices x0 x1 3 31, Model.slices x0 x1 3 32, Model.slices x0 x1 3 33, Model.slices x0 x1 3 34,
      Model.slices x0 x1 3 35, Model.slices x0 x1 3 36, Model.slices x0 x1 3 37, Model.slices x0 x1 3 38, Model.slices x0 x1 3 39,
      Model.slices x0 x1 3 40, Model.slices x0 x1 3 41, Model.slices x0 x1 3 42, Model.slices x0 x1 3 43, Model.slices x0 x1 3 44,
      Model.slices x0 x1 3 45, Model.slices x0 x1 3 46, Model.slices x0 x1 3 47, Model.slices x0 x1 3 48, Model.slices x0 x1 3 49,
      Model.slices x0 x1 3 50, Model.slices x0 x1 3 51, Model.slices x0 x1 3 52, Model.slices x0 x1 3 53, Model.slices x0 x1 3 54,
      Model.slices x0 x1 3 55, Model.slices x0 x1 3 56, Model.slices x0 x1 3 57, Model.slices x0 x1 3 58, Model.slices x0 x1 3 59,
      Model.slices x0 x1 3 60, Model.slices x0 x1 3 61, Model.slices x0 x1 3 62,
      cmpi .eq (Model.winner (Model.slices x0 x1 2)) (broadcast S128x256 63#32), broadcast S128x256 Model.inf⟩ := by
  unfold k0_part111
  refine .bind (p := k0_part30 (F := F) i arg1 harg1 arg2 harg2 arg3 harg3)
    (a := ⟨Model.colRow x1 0, Model.colRow x1 1, Model.colRow x1 2, Model.slices x0 x1 0 0, Model.slices x0 x1 0 1⟩) ?_ ?_
  rotate_left 1
  refine .bind (p := k0_part31 (F := F) i arg1 harg1 arg2 harg2 arg3 harg3 _ _ _)
    (a := ⟨Model.slices x0 x1 0 2, Model.slices x0 x1 0 3, ?_, ?_, ?_⟩) ?_ ?_
  rotate_left 4
  refine .bind (p := k0_part32 (F := F) i arg1 harg1 arg2 harg2 arg3 harg3 _ _ _ _ _ _)
    (a := ⟨Model.slices x0 x1 0 4, Model.slices x0 x1 0 5, Model.slices x0 x1 0 6, ?_⟩) ?_ ?_
  rotate_left 2
  refine .bind (p := k0_part33 (F := F) i arg1 harg1 arg2 harg2 arg3 harg3 _ _ _ _)
    (a := ⟨Model.slices x0 x1 0 7, Model.slices x0 x1 0 8, ?_, ?_, ?_⟩) ?_ ?_
  rotate_left 4
  refine .bind (p := k0_part34 (F := F) i arg1 harg1 arg2 harg2 arg3 harg3 _ _ _ _ _ _)
    (a := ⟨Model.slices x0 x1 0 9, Model.slices x0 x1 0 10, Model.slices x0 x1 0 11, ?_, ?_, ?_⟩) ?_ ?_
  rotate_left 4
  refine .bind (p := k0_part35 (F := F) i arg1 harg1 arg2 harg2 arg3 harg3 _ _ _ _ _ _)
    (a := ⟨Model.slices x0 x1 0 12, Model.slices x0 x1 0 13, Model.slices x0 x1 0 14⟩) ?_ ?_
  rotate_left 1
  refine .bind (p := k0_part36 (F := F) i arg1 harg1 arg2 harg2 arg3 harg3 _ _ _)
    (a := ⟨Model.slices x0 x1 0 15, Model.slices x0 x1 0 16, ?_, ?_, ?_⟩) ?_ ?_
  rotate_left 4
  refine .bind (p := k0_part37 (F := F) i arg1 harg1 arg2 harg2 arg3 harg3 _ _ _ _ _ _)
    (a := ⟨Model.slices x0 x1 0 17, Model.slices x0 x1 0 18, Model.slices x0 x1 0 19, ?_⟩) ?_ ?_
  rotate_left 2
  refine .bind (p := k0_part38 (F := F) i arg1 harg1 arg2 harg2 arg3 harg3 _ _ _ _)
    (a := ⟨Model.slices x0 x1 0 20, Model.slices x0 x1 0 21, ?_, ?_⟩) ?_ ?_
  rotate_left 3
  refine .bind (p := k0_part39 (F := F) i arg1 harg1 arg2 harg2 arg3 harg3 _ _ _ _ _)
    (a := ⟨Model.slices x0 x1 0 22, Model.slices x0 x1 0 23, Model.slices x0 x1 0 24, ?_, ?_⟩) ?_ ?_
  rotate_left 3
  refine .bind (p := k0_part40 (F := F) i arg1 harg1 arg2 harg2 arg3 harg3 _ _ _ _ _)
    (a := ⟨Model.slices x0 x1 0 25, Model.slices x0 x1 0 26, Model.slices x0 x1 0 27, ?_⟩) ?_ ?_
  rotate_left 2
  refine .bind (p := k0_part41 (F := F) i arg1 harg1 arg2 harg2 arg3 harg3 _ _ _ _)
    (a := ⟨Model.slices x0 x1 0 28, Model.slices x0 x1 0 29, ?_, ?_, ?_, ?_⟩) ?_ ?_
  rotate_left 5
  refine .bind (p := k0_part42 (F := F) i arg1 harg1 arg2 harg2 arg3 harg3 _ _ _ _ _ _ _)
    (a := ⟨Model.slices x0 x1 0 30, Model.slices x0 x1 0 31, Model.slices x0 x1 0 32, ?_⟩) ?_ ?_
  rotate_left 2
  refine .bind (p := k0_part43 (F := F) i arg1 harg1 arg2 harg2 arg3 harg3 _ _ _ _)
    (a := ⟨Model.slices x0 x1 0 33, Model.slices x0 x1 0 34, ?_, ?_⟩) ?_ ?_
  rotate_left 3
  refine .bind (p := k0_part44 (F := F) i arg1 harg1 arg2 harg2 arg3 harg3 _ _ _ _ _)
    (a := ⟨Model.slices x0 x1 0 35, Model.slices x0 x1 0 36, Model.slices x0 x1 0 37, ?_, ?_⟩) ?_ ?_
  rotate_left 3
  refine .bind (p := k0_part45 (F := F) i arg1 harg1 arg2 harg2 arg3 harg3 _ _ _ _ _)
    (a := ⟨Model.slices x0 x1 0 38, Model.slices x0 x1 0 39, Model.slices x0 x1 0 40, ?_⟩) ?_ ?_
  rotate_left 2
  refine .bind (p := k0_part46 (F := F) i arg1 harg1 arg2 harg2 arg3 harg3 _ _ _ _)
    (a := ⟨Model.slices x0 x1 0 41, Model.slices x0 x1 0 42, ?_, ?_, ?_⟩) ?_ ?_
  rotate_left 4
  refine .bind (p := k0_part47 (F := F) i arg1 harg1 arg2 harg2 arg3 harg3 _ _ _ _ _ _)
    (a := ⟨Model.slices x0 x1 0 43, Model.slices x0 x1 0 44, Model.slices x0 x1 0 45, ?_, ?_⟩) ?_ ?_
  rotate_left 3
  refine .bind (p := k0_part48 (F := F) i arg1 harg1 arg2 harg2 arg3 harg3 _ _ _ _ _)
    (a := ⟨Model.slices x0 x1 0 46, Model.slices x0 x1 0 47, Model.slices x0 x1 0 48⟩) ?_ ?_
  rotate_left 1
  refine .bind (p := k0_part49 (F := F) i arg1 harg1 arg2 harg2 arg3 harg3 _ _ _)
    (a := ⟨Model.slices x0 x1 0 49, Model.slices x0 x1 0 50, ?_, ?_⟩) ?_ ?_
  rotate_left 3
  refine .bind (p := k0_part50 (F := F) i arg1 harg1 arg2 harg2 arg3 harg3 _ _ _ _ _)
    (a := ⟨Model.slices x0 x1 0 51, Model.slices x0 x1 0 52, Model.slices x0 x1 0 53, ?_, ?_⟩) ?_ ?_
  rotate_left 3
  refine .bind (p := k0_part51 (F := F) i arg1 harg1 arg2 harg2 arg3 harg3 _ _ _ _ _)
    (a := ⟨Model.slices x0 x1 0 54, Model.slices x0 x1 0 55, ?_, ?_, ?_⟩) ?_ ?_
  rotate_left 4
  refine .bind (p := k0_part52 (F := F) i arg1 harg1 arg2 harg2 arg3 harg3 _ _ _ _ _ _)
    (a := ⟨Model.slices x0 x1 0 56, Model.slices x0 x1 0 57, Model.slices x0 x1 0 58, ?_, ?_⟩) ?_ ?_
  rotate_left 3
  refine .bind (p := k0_part53 (F := F) i arg1 harg1 arg2 harg2 arg3 harg3 _ _ _ _ _)
    (a := ⟨Model.slices x0 x1 0 59, Model.slices x0 x1 0 60, Model.slices x0 x1 0 61⟩) ?_ ?_
  rotate_left 1
  refine .bind (p := k0_part54 (F := F) i arg1 harg1 arg2 harg2 arg3 harg3 _ _ _ _ _ _ _)
    (a := ⟨Model.slices x0 x1 0 62, Model.slices x0 x1 0 63, iota .tc S128x256 32 [0] iota_S128x256_d0_w32,
      (Model.level (Model.slices x0 x1 0) 1 0).1, (Model.level (Model.slices x0 x1 0) 1 0).2, (Model.level (Model.slices x0 x1 0) 1 1).1,
      (Model.level (Model.slices x0 x1 0) 1 1).2⟩) ?_ ?_
  rotate_left 1
  refine .bind (p := k0_part55 (F := F) i arg1 harg1 arg2 harg2 arg3 harg3 _ _ _ _ _ _ _ _ _ _ _ _ _ _ _ _ _ _)
    (a := ⟨(Model.level (Model.slices x0 x1 0) 1 2).1, (Model.level (Model.slices x0 x1 0) 1 2).2, (Model.level (Model.slices x0 x1 0) 1 3).1,
      (Model.level (Model.slices x0 x1 0) 1 3).2, (Model.level (Model.slices x0 x1 0) 1 4).1, (Model.level (Model.slices x0 x1 0) 1 4).2,
      (Model.level (Model.slices x0 x1 0) 1 5).1, (Model.level (Model.slices x0 x1 0) 1 5).2, (Model.level (Model.slices x0 x1 0) 1 6).1,
      (Model.level (Model.slices x0 x1 0) 1 6).2, (Model.level (Model.slices x0 x1 0) 1 7).1, (Model.level (Model.slices x0 x1 0) 1 7).2,
      (Model.level (Model.slices x0 x1 0) 1 8).1, (Model.level (Model.slices x0 x1 0) 1 8).2, (Model.level (Model.slices x0 x1 0) 1 9).1,
      (Model.level (Model.slices x0 x1 0) 1 9).2, cmpf .olt (Model.slices x0 x1 0 21) (Model.slices x0 x1 0 20),
      (Model.level (Model.slices x0 x1 0) 1 10).1, 21#32, 20#32⟩) ?_ ?_
  rotate_left 1
  refine .bind (p := k0_part56 (F := F) i arg1 harg1 arg2 harg2 arg3 harg3 _ _ _ _ _ _ _ _ _ _ _ _ _ _ _ _ _ _ _ _ _)
    (a := ⟨(Model.level (Model.slices x0 x1 0) 1 10).2, (Model.level (Model.slices x0 x1 0) 1 11).1, (Model.level (Model.slices x0 x1 0) 1 11).2,
      (Model.level (Model.slices x0 x1 0) 1 12).1, (Model.level (Model.slices x0 x1 0) 1 12).2, (Model.level (Model.slices x0 x1 0) 1 13).1,
      (Model.level (Model.slices x0 x1 0) 1 13).2, (Model.level (Model.slices x0 x1 0) 1 14).1, (Model.level (Model.slices x0 x1 0) 1 14).2,
      (Model.level (Model.slices x0 x1 0) 1 15).1, (Model.level (Model.slices x0 x1 0) 1 15).2, (Model.level (Model.slices x0 x1 0) 1 16).1,
      (Model.level (Model.slices x0 x1 0) 1 16).2, (Model.level (Model.slices x0 x1 0) 1 17).1, (Model.level (Model.slices x0 x1 0) 1 17).2,
      (Model.level (Model.slices x0 x1 0) 1 18).1, (Model.level (Model.slices x0 x1 0) 1 18).2,
      cmpf .olt (Model.slices x0 x1 0 39) (Model.slices x0 x1 0 38)⟩) ?_ ?_
  rotate_left 1
  refine .bind (p := k0_part57 (F := F) i arg1 harg1 arg2 harg2 arg3 harg3 _ _ _ _ _ _ _ _ _ _ _ _ _ _ _ _ _ _ _)
    (a := ⟨(Model.level (Model.slices x0 x1 0) 1 19).1, (Model.level (Model.slices x0 x1 0) 1 19).2, (Model.level (Model.slices x0 x1 0) 1 20).1,
      (Model.level (Model.slices x0 x1 0) 1 20).2, (Model.level (Model.slices x0 x1 0) 1 21).1, (Model.level (Model.slices x0 x1 0) 1 21).2,
      (Model.level (Model.slices x0 x1 0) 1 22).1, (Model.level (Model.slices x0 x1 0) 1 22).2, (Model.level (Model.slices x0 x1 0) 1 23).1,
      (Model.level (Model.slices x0 x1 0) 1 23).2, (Model.level (Model.slices x0 x1 0) 1 24).1, (Model.level (Model.slices x0 x1 0) 1 24).2,
      (Model.level (Model.slices x0 x1 0) 1 25).1, (Model.level (Model.slices x0 x1 0) 1 25).2, (Model.level (Model.slices x0 x1 0) 1 26).1,
      (Model.level (Model.slices x0 x1 0) 1 26).2, cmpf .olt (Model.slices x0 x1 0 55) (Model.slices x0 x1 0 54),
      (Model.level (Model.slices x0 x1 0) 1 27).1, 54#32, broadcast S128x256 55#32⟩) ?_ ?_
  rotate_left 1
  refine .bind (p := k0_part58 (F := F) i arg1 harg1 arg2 harg2 arg3 harg3 _ _ _ _ _ _ _ _ _ _ _ _ _ _ _ _ _ _ _ _ _ _ _
      _ _ _ _ _ _ _ _ _ _ _ _ _ _ _ _ _ _ _ _ _ _ _ _ _ _ _ _)
    (a := ⟨(Model.level (Model.slices x0 x1 0) 1 27).2, (Model.level (Model.slices x0 x1 0) 1 28).1, (Model.level (Model.slices x0 x1 0) 1 28).2,
      (Model.level (Model.slices x0 x1 0) 1 29).1, (Model.level (Model.slices x0 x1 0) 1 29).2, (Model.level (Model.slices x0 x1 0) 1 30).1,
      (Model.level (Model.slices x0 x1 0) 1 30).2, (Model.level (Model.slices x0 x1 0) 1 31).1, (Model.level (Model.slices x0 x1 0) 1 31).2,
      (Model.level (Model.slices x0 x1 0) 2 0).1, (Model.level (Model.slices x0 x1 0) 2 0).2, (Model.level (Model.slices x0 x1 0) 2 1).1,
      (Model.level (Model.slices x0 x1 0) 2 1).2, (Model.level (Model.slices x0 x1 0) 2 2).1, (Model.level (Model.slices x0 x1 0) 2 2).2,
      (Model.level (Model.slices x0 x1 0) 2 3).1, (Model.level (Model.slices x0 x1 0) 2 3).2, (Model.level (Model.slices x0 x1 0) 2 4).1,
      (Model.level (Model.slices x0 x1 0) 2 4).2, (Model.level (Model.slices x0 x1 0) 2 5).1, (Model.level (Model.slices x0 x1 0) 2 5).2,
      (Model.level (Model.slices x0 x1 0) 2 6).1, (Model.level (Model.slices x0 x1 0) 2 6).2, (Model.level (Model.slices x0 x1 0) 2 7).1,
      (Model.level (Model.slices x0 x1 0) 2 7).2, (Model.level (Model.slices x0 x1 0) 2 8).1, (Model.level (Model.slices x0 x1 0) 2 8).2,
      (Model.level (Model.slices x0 x1 0) 2 9).1, (Model.level (Model.slices x0 x1 0) 2 9).2⟩) ?_ ?_
  rotate_left 1
  refine .bind (p := k0_part59 (F := F) i arg1 harg1 arg2 harg2 arg3 harg3 _ _ _ _ _ _ _ _ _ _ _ _ _ _ _ _ _ _ _ _ _ _ _
      _ _ _ _ _ _ _ _ _ _ _ _ _ _ _ _ _ _ _ _ _)
    (a := ⟨(Model.level (Model.slices x0 x1 0) 5 0).1, (Model.level (Model.slices x0 x1 0) 5 0).2, (Model.level (Model.slices x0 x1 0) 5 1).1,
      (Model.level (Model.slices x0 x1 0) 5 1).2⟩) ?_ ?_
  rotate_left 1
  refine .bind (p := k0_part60 (F := F) i arg1 harg1 arg2 harg2 arg3 harg3 _ _ _ _ _ _ _ _ _ _ _ _ _)
    (a := ⟨Model.best (Model.slices x0 x1 0), Model.winner (Model.slices x0 x1 0),
      addi (muli (Model.winner (Model.slices x0 x1 0)) (broadcast S128x256 128#32)) (iota .tc S128x256 32 [0] iota_S128x256_d0_w32),
      Model.slices x0 x1 1 0, Model.slices x0 x1 1 1, Model.slices x0 x1 1 2, Model.slices x0 x1 1 3, Model.slices x0 x1 1 4,
      Model.slices x0 x1 1 5, Model.slices x0 x1 1 6, Model.slices x0 x1 1 7,
      cmpi .eq (Model.winner (Model.slices x0 x1 0)) (broadcast S128x256 8#32), broadcast S128x256 Model.inf⟩) ?_ ?_
  rotate_left 1
  refine .bind (p := k0_part61 (F := F) i arg1 harg1 arg2 harg2 arg3 harg3 _ _ _ _ _ _ _ _ _ _ _ _ _)
    (a := ⟨Model.slices x0 x1 1 8, Model.slices x0 x1 1 9, Model.slices x0 x1 1 10, Model.slices x0 x1 1 11, Model.slices x0 x1 1 12,
      Model.slices x0 x1 1 13, Model.slices x0 x1 1 14, Model.slices x0 x1 1 15, Model.slices x0 x1 1 16, Model.slices x0 x1 1 17,
      cmpi .eq (Model.winner (Model.slices x0 x1 0)) (broadcast S128x256 18#32), broadcast S128x256 Model.inf⟩) ?_ ?_
  rotate_left 1
  refine .bind (p := k0_part62 (F := F) i arg1 harg1 arg2 harg2 arg3 harg3 _ _ _ _ _ _ _ _ _ _ _ _ _)
    (a := ⟨Model.slices x0 x1 1 18, Model.slices x0 x1 1 19, Model.slices x0 x1 1 20, Model.slices x0 x1 1 21, Model.slices x0 x1 1 22,
      Model.slices x0 x1 1 23, Model.slices x0 x1 1 24, Model.slices x0 x1 1 25, Model.slices x0 x1 1 26, Model.slices x0 x1 1 27,
      cmpi .eq (Model.winner (Model.slices x0 x1 0)) (broadcast S128x256 28#32), broadcast S128x256 Model.inf⟩) ?_ ?_
  rotate_left 1
  refine .bind (p := k0_part63 (F := F) i arg1 harg1 arg2 harg2 arg3 harg3 _ _ _ _ _ _ _ _ _ _ _ _ _)
    (a := ⟨Model.slices x0 x1 1 28, Model.slices x0 x1 1 29, Model.slices x0 x1 1 30, Model.slices x0 x1 1 31, Model.slices x0 x1 1 32,
      Model.slices x0 x1 1 33, Model.slices x0 x1 1 34, Model.slices x0 x1 1 35, Model.slices x0 x1 1 36, Model.slices x0 x1 1 37,
      cmpi .eq (Model.winner (Model.slices x0 x1 0)) (broadcast S128x256 38#32), broadcast S128x256 Model.inf⟩) ?_ ?_
  rotate_left 1
  refine .bind (p := k0_part64 (F := F) i arg1 harg1 arg2 harg2 arg3 harg3 _ _ _ _ _ _ _ _ _ _ _ _ _)
    (a := ⟨Model.slices x0 x1 1 38, Model.slices x0 x1 1 39, Model.slices x0 x1 1 40, Model.slices x0 x1 1 41, Model.slices x0 x1 1 42,
      Model.slices x0 x1 1 43, Model.slices x0 x1 1 44, Model.slices x0 x1 1 45, Model.slices x0 x1 1 46, Model.slices x0 x1 1 47,
      cmpi .eq (Model.winner (Model.slices x0 x1 0)) (broadcast S128x256 48#32), broadcast S128x256 Model.inf⟩) ?_ ?_
  rotate_left 1
  refine .bind (p := k0_part65 (F := F) i arg1 harg1 arg2 harg2 arg3 harg3 _ _ _ _ _ _ _ _ _ _ _ _ _)
    (a := ⟨Model.slices x0 x1 1 48, Model.slices x0 x1 1 49, Model.slices x0 x1 1 50, Model.slices x0 x1 1 51, Model.slices x0 x1 1 52,
      Model.slices x0 x1 1 53, Model.slices x0 x1 1 54, Model.slices x0 x1 1 55, Model.slices x0 x1 1 56, Model.slices x0 x1 1 57,
      cmpi .eq (Model.winner (Model.slices x0 x1 0)) (broadcast S128x256 58#32), broadcast S128x256 Model.inf⟩) ?_ ?_
  rotate_left 1
  refine .bind (p := k0_part66 (F := F) i arg1 harg1 arg2 harg2 arg3 harg3 _ _ _ _ _ _ _ _ _ _ _ _ _ _ _ _ _ _ _)
    (a := ⟨Model.slices x0 x1 1 58, Model.slices x0 x1 1 59, Model.slices x0 x1 1 60, Model.slices x0 x1 1 61, Model.slices x0 x1 1 62,
      Model.slices x0 x1 1 63, (Model.level (Model.slices x0 x1 1) 1 0).1, (Model.level (Model.slices x0 x1 1) 1 0).2,
      (Model.level (Model.slices x0 x1 1) 1 1).1, (Model.level (Model.slices x0 x1 1) 1 1).2, (Model.level (Model.slices x0 x1 1) 1 2).1,
      (Model.level (Model.slices x0 x1 1) 1 2).2, (Model.level (Model.slices x0 x1 1) 1 3).1, (Model.level (Model.slices x0 x1 1) 1 3).2,
      cmpf .olt (Model.slices x0 x1 1 9) (Model.slices x0 x1 1 8)⟩) ?_ ?_
  rotate_left 1
  refine .bind (p := k0_part67 (F := F) i arg1 harg1 arg2 harg2 arg3 harg3 _ _ _ _ _ _ _ _ _ _ _ _ _ _ _ _ _ _ _)
    (a := ⟨(Model.level (Model.slices x0 x1 1) 1 4).1, (Model.level (Model.slices x0 x1 1) 1 4).2, (Model.level (Model.slices x0 x1 1) 1 5).1,
      (Model.level (Model.slices x0 x1 1) 1 5).2, (Model.level (Model.slices x0 x1 1) 1 6).1, (Model.level (Model.slices x0 x1 1) 1 6).2,
      (Model.level (Model.slices x0 x1 1) 1 7).1, (Model.level (Model.slices x0 x1 1) 1 7).2, (Model.level (Model.slices x0 x1 1) 1 8).1,
      (Model.level (Model.slices x0 x1 1) 1 8).2, (Model.level (Model.slices x0 x1 1) 1 9).1, (Model.level (Model.slices x0 x1 1) 1 9).2,
      (Model.level (Model.slices x0 x1 1) 1 10).1, (Model.level (Model.slices x0 x1 1) 1 10).2, (Model.level (Model.slices x0 x1 1) 1 11).1,
      (Model.level (Model.slices x0 x1 1) 1 11).2, cmpf .olt (Model.slices x0 x1 1 25) (Model.slices x0 x1 1 24),
      (Model.level (Model.slices x0 x1 1) 1 12).1, 24#32, broadcast S128x256 25#32⟩) ?_ ?_
  rotate_left 1
  refine .bind (p := k0_part68 (F := F) i arg1 harg1 arg2 harg2 arg3 harg3 _ _ _ _ _ _ _ _ _ _ _ _ _ _ _ _ _ _ _ _ _)
    (a := ⟨(Model.level (Model.slices x0 x1 1) 1 12).2, (Model.level (Model.slices x0 x1 1) 1 13).1, (Model.level (Model.slices x0 x1 1) 1 13).2,
      (Model.level (Model.slices x0 x1 1) 1 14).1, (Model.level (Model.slices x0 x1 1) 1 14).2, (Model.level (Model.slices x0 x1 1) 1 15).1,
      (Model.level (Model.slices x0 x1 1) 1 15).2, (Model.level (Model.slices x0 x1 1) 1 16).1, (Model.level (Model.slices x0 x1 1) 1 16).2,
      (Model.level (Model.slices x0 x1 1) 1 17).1, (Model.level (Model.slices x0 x1 1) 1 17).2, (Model.level (Model.slices x0 x1 1) 1 18).1,
      (Model.level (Model.slices x0 x1 1) 1 18).2, (Model.level (Model.slices x0 x1 1) 1 19).1, (Model.level (Model.slices x0 x1 1) 1 19).2,
      (Model.level (Model.slices x0 x1 1) 1 20).1, (Model.level (Model.slices x0 x1 1) 1 20).2,
      cmpf .olt (Model.slices x0 x1 1 43) (Model.slices x0 x1 1 42), (Model.level (Model.slices x0 x1 1) 1 21).1⟩) ?_ ?_
  rotate_left 1
  refine .bind (p := k0_part69 (F := F) i arg1 harg1 arg2 harg2 arg3 harg3 _ _ _ _ _ _ _ _ _ _ _ _ _ _ _ _ _)
    (a := ⟨(Model.level (Model.slices x0 x1 1) 1 21).2, (Model.level (Model.slices x0 x1 1) 1 22).1, (Model.level (Model.slices x0 x1 1) 1 22).2,
      (Model.level (Model.slices x0 x1 1) 1 23).1, (Model.level (Model.slices x0 x1 1) 1 23).2, (Model.level (Model.slices x0 x1 1) 1 24).1,
      (Model.level (Model.slices x0 x1 1) 1 24).2, (Model.level (Model.slices x0 x1 1) 1 25).1, (Model.level (Model.slices x0 x1 1) 1 25).2,
      (Model.level (Model.slices x0 x1 1) 1 26).1, (Model.level (Model.slices x0 x1 1) 1 26).2, (Model.level (Model.slices x0 x1 1) 1 27).1,
      (Model.level (Model.slices x0 x1 1) 1 27).2, (Model.level (Model.slices x0 x1 1) 1 28).1, (Model.level (Model.slices x0 x1 1) 1 28).2,
      cmpf .olt (Model.slices x0 x1 1 59) (Model.slices x0 x1 1 58), (Model.level (Model.slices x0 x1 1) 1 29).1, broadcast S128x256 59#32,
      broadcast S128x256 58#32⟩) ?_ ?_
  rotate_left 1
  refine .bind (p := k0_part70 (F := F) i arg1 harg1 arg2 harg2 arg3 harg3 _ _ _ _ _ _ _ _ _ _ _ _ _ _ _ _ _ _ _ _ _ _ _
      _ _ _ _ _ _ _ _ _ _ _ _ _ _ _ _ _ _ _ _ _ _ _ _ _ _ _ _ _ _ _ _ _ _ _ _ _ _ _ _ _ _ _)
    (a := ⟨(Model.level (Model.slices x0 x1 1) 1 30).1, (Model.level (Model.slices x0 x1 1) 1 30).2, (Model.level (Model.slices x0 x1 1) 1 31).1,
      (Model.level (Model.slices x0 x1 1) 1 31).2, (Model.level (Model.slices x0 x1 1) 2 0).1, (Model.level (Model.slices x0 x1 1) 2 0).2,
      (Model.level (Model.slices x0 x1 1) 2 1).1, (Model.level (Model.slices x0 x1 1) 2 1).2, (Model.level (Model.slices x0 x1 1) 2 2).1,
      (Model.level (Model.slices x0 x1 1) 2 2).2, (Model.level (Model.slices x0 x1 1) 2 3).1, (Model.level (Model.slices x0 x1 1) 2 3).2,
      (Model.level (Model.slices x0 x1 1) 2 4).1, (Model.level (Model.slices x0 x1 1) 2 4).2, (Model.level (Model.slices x0 x1 1) 2 5).1,
      (Model.level (Model.slices x0 x1 1) 2 5).2, (Model.level (Model.slices x0 x1 1) 2 6).1, (Model.level (Model.slices x0 x1 1) 2 6).2,
      (Model.level (Model.slices x0 x1 1) 2 7).1, (Model.level (Model.slices x0 x1 1) 2 7).2, (Model.level (Model.slices x0 x1 1) 2 8).1,
      (Model.level (Model.slices x0 x1 1) 2 8).2, (Model.level (Model.slices x0 x1 1) 2 9).1, (Model.level (Model.slices x0 x1 1) 2 9).2,
      (Model.level (Model.slices x0 x1 1) 2 10).1, (Model.level (Model.slices x0 x1 1) 2 10).2, (Model.level (Model.slices x0 x1 1) 2 11).1,
      (Model.level (Model.slices x0 x1 1) 2 11).2, (Model.level (Model.slices x0 x1 1) 2 12).1, (Model.level (Model.slices x0 x1 1) 2 12).2,
      (Model.level (Model.slices x0 x1 1) 2 13).1, (Model.level (Model.slices x0 x1 1) 2 13).2, (Model.level (Model.slices x0 x1 1) 2 14).1,
      (Model.level (Model.slices x0 x1 1) 2 14).2⟩) ?_ ?_
  rotate_left 1
  refine .bind (p := k0_part71 (F := F) i arg1 harg1 arg2 harg2 arg3 harg3 _ _ _ _ _ _ _ _ _ _ _ _ _ _ _ _ _ _ _ _ _ _ _
      _ _ _ _ _ _ _ _ _ _ _ _ _)
    (a := ⟨Model.best (Model.slices x0 x1 1), Model.winner (Model.slices x0 x1 1),
      addi (muli (Model.winner (Model.slices x0 x1 1)) (broadcast S128x256 128#32)) (iota .tc S128x256 32 [0] iota_S128x256_d0_w32),
      Model.slices x0 x1 2 0, broadcast S128x256 1#32⟩) ?_ ?_
  rotate_left 1
  refine .bind (p := k0_part72 (F := F) i arg1 harg1 arg2 harg2 arg3 harg3 _ _ _ _ _ _ _ _ _ _ _ _)
    (a := ⟨Model.slices x0 x1 2 1, Model.slices x0 x1 2 2, Model.slices x0 x1 2 3, Model.slices x0 x1 2 4, Model.slices x0 x1 2 5,
      Model.slices x0 x1 2 6, Model.slices x0 x1 2 7, Model.slices x0 x1 2 8, Model.slices x0 x1 2 9, Model.slices x0 x1 2 10,
      broadcast S128x256 11#32⟩) ?_ ?_
  rotate_left 1
  refine .bind (p := k0_part73 (F := F) i arg1 harg1 arg2 harg2 arg3 harg3 _ _ _ _ _ _ _ _ _ _ _ _)
    (a := ⟨Model.slices x0 x1 2 11, Model.slices x0 x1 2 12, Model.slices x0 x1 2 13, Model.slices x0 x1 2 14, Model.slices x0 x1 2 15,
      Model.slices x0 x1 2 16, Model.slices x0 x1 2 17, Model.slices x0 x1 2 18, Model.slices x0 x1 2 19, Model.slices x0 x1 2 20,
      broadcast S128x256 21#32⟩) ?_ ?_
  rotate_left 1
  refine .bind (p := k0_part74 (F := F) i arg1 harg1 arg2 harg2 arg3 harg3 _ _ _ _ _ _ _ _ _ _ _ _)
    (a := ⟨Model.slices x0 x1 2 21, Model.slices x0 x1 2 22, Model.slices x0 x1 2 23, Model.slices x0 x1 2 24, Model.slices x0 x1 2 25,
      Model.slices x0 x1 2 26, Model.slices x0 x1 2 27, Model.slices x0 x1 2 28, Model.slices x0 x1 2 29, Model.slices x0 x1 2 30,
      broadcast S128x256 31#32⟩) ?_ ?_
  rotate_left 1
  refine .bind (p := k0_part75 (F := F) i arg1 harg1 arg2 harg2 arg3 harg3 _ _ _ _ _ _ _ _ _ _ _ _)
    (a := ⟨Model.slices x0 x1 2 31, Model.slices x0 x1 2 32, Model.slices x0 x1 2 33, Model.slices x0 x1 2 34, Model.slices x0 x1 2 35,
      Model.slices x0 x1 2 36, Model.slices x0 x1 2 37, Model.slices x0 x1 2 38, Model.slices x0 x1 2 39, Model.slices x0 x1 2 40,
      broadcast S128x256 41#32⟩) ?_ ?_
  rotate_left 1
  refine .bind (p := k0_part76 (F := F) i arg1 harg1 arg2 harg2 arg3 harg3 _ _ _ _ _ _ _ _ _ _ _ _)
    (a := ⟨Model.slices x0 x1 2 41, Model.slices x0 x1 2 42, Model.slices x0 x1 2 43, Model.slices x0 x1 2 44, Model.slices x0 x1 2 45,
      Model.slices x0 x1 2 46, Model.slices x0 x1 2 47, Model.slices x0 x1 2 48, Model.slices x0 x1 2 49, Model.slices x0 x1 2 50,
      broadcast S128x256 51#32⟩) ?_ ?_
  rotate_left 1
  refine .bind (p := k0_part77 (F := F) i arg1 harg1 arg2 harg2 arg3 harg3 _ _ _ _ _ _ _ _ _ _ _ _)
    (a := ⟨Model.slices x0 x1 2 51, Model.slices x0 x1 2 52, Model.slices x0 x1 2 53, Model.slices x0 x1 2 54, Model.slices x0 x1 2 55,
      Model.slices x0 x1 2 56, Model.slices x0 x1 2 57, Model.slices x0 x1 2 58, Model.slices x0 x1 2 59, Model.slices x0 x1 2 60,
      broadcast S128x256 61#32⟩) ?_ ?_
  rotate_left 1
  refine .bind (p := k0_part78 (F := F) i arg1 harg1 arg2 harg2 arg3 harg3 _ _ _ _ _ _ _ _ _ _ _ _ _ _ _ _ _ _ _)
    (a := ⟨Model.slices x0 x1 2 61, Model.slices x0 x1 2 62, Model.slices x0 x1 2 63, (Model.level (Model.slices x0 x1 2) 1 0).1,
      (Model.level (Model.slices x0 x1 2) 1 0).2, (Model.level (Model.slices x0 x1 2) 1 1).1, (Model.level (Model.slices x0 x1 2) 1 1).2,
      (Model.level (Model.slices x0 x1 2) 1 2).1, (Model.level (Model.slices x0 x1 2) 1 2).2, (Model.level (Model.slices x0 x1 2) 1 3).1,
      (Model.level (Model.slices x0 x1 2) 1 3).2, (Model.level (Model.slices x0 x1 2) 1 4).1, (Model.level (Model.slices x0 x1 2) 1 4).2,
      (Model.level (Model.slices x0 x1 2) 1 5).1, (Model.level (Model.slices x0 x1 2) 1 5).2,
      cmpf .olt (Model.slices x0 x1 2 13) (Model.slices x0 x1 2 12), (Model.level (Model.slices x0 x1 2) 1 6).1⟩) ?_ ?_
  rotate_left 1
  refine .bind (p := k0_part79 (F := F) i arg1 harg1 arg2 harg2 arg3 harg3 _ _ _ _ _ _ _ _ _ _ _ _ _ _ _ _ _)
    (a := ⟨(Model.level (Model.slices x0 x1 2) 1 6).2, (Model.level (Model.slices x0 x1 2) 1 7).1, (Model.level (Model.slices x0 x1 2) 1 7).2,
      (Model.level (Model.slices x0 x1 2) 1 8).1, (Model.level (Model.slices x0 x1 2) 1 8).2, (Model.level (Model.slices x0 x1 2) 1 9).1,
      (Model.level (Model.slices x0 x1 2) 1 9).2, (Model.level (Model.slices x0 x1 2) 1 10).1, (Model.level (Model.slices x0 x1 2) 1 10).2,
      (Model.level (Model.slices x0 x1 2) 1 11).1, (Model.level (Model.slices x0 x1 2) 1 11).2, (Model.level (Model.slices x0 x1 2) 1 12).1,
      (Model.level (Model.slices x0 x1 2) 1 12).2, (Model.level (Model.slices x0 x1 2) 1 13).1, (Model.level (Model.slices x0 x1 2) 1 13).2,
      cmpf .olt (Model.slices x0 x1 2 29) (Model.slices x0 x1 2 28), (Model.level (Model.slices x0 x1 2) 1 14).1, broadcast S128x256 29#32,
      broadcast S128x256 28#32⟩) ?_ ?_
  rotate_left 1
  refine .bind (p := k0_part80 (F := F) i arg1 harg1 arg2 harg2 arg3 harg3 _ _ _ _ _ _ _ _ _ _ _ _ _ _ _ _ _ _ _ _ _)
    (a := ⟨(Model.level (Model.slices x0 x1 2) 1 14).2, (Model.level (Model.slices x0 x1 2) 1 15).1, (Model.level (Model.slices x0 x1 2) 1 15).2,
      (Model.level (Model.slices x0 x1 2) 1 16).1, (Model.level (Model.slices x0 x1 2) 1 16).2, (Model.level (Model.slices x0 x1 2) 1 17).1,
      (Model.level (Model.slices x0 x1 2) 1 17).2, (Model.level (Model.slices x0 x1 2) 1 18).1, (Model.level (Model.slices x0 x1 2) 1 18).2,
      (Model.level (Model.slices x0 x1 2) 1 19).1, (Model.level (Model.slices x0 x1 2) 1 19).2, (Model.level (Model.slices x0 x1 2) 1 20).1,
      (Model.level (Model.slices x0 x1 2) 1 20).2, (Model.level (Model.slices x0 x1 2) 1 21).1, (Model.level (Model.slices x0 x1 2) 1 21).2,
      (Model.level (Model.slices x0 x1 2) 1 22).1, (Model.level (Model.slices x0 x1 2) 1 22).2,
      cmpf .olt (Model.slices x0 x1 2 47) (Model.slices x0 x1 2 46), (Model.level (Model.slices x0 x1 2) 1 23).1, 47#32⟩) ?_ ?_
  rotate_left 1
  refine .bind (p := k0_part81 (F := F) i arg1 harg1 arg2 harg2 arg3 harg3 _ _ _ _ _ _ _ _ _ _ _ _ _ _ _ _ _ _)
    (a := ⟨(Model.level (Model.slices x0 x1 2) 1 23).2, (Model.level (Model.slices x0 x1 2) 1 24).1, (Model.level (Model.slices x0 x1 2) 1 24).2,
      (Model.level (Model.slices x0 x1 2) 1 25).1, (Model.level (Model.slices x0 x1 2) 1 25).2, (Model.level (Model.slices x0 x1 2) 1 26).1,
      (Model.level (Model.slices x0 x1 2) 1 26).2, (Model.level (Model.slices x0 x1 2) 1 27).1, (Model.level (Model.slices x0 x1 2) 1 27).2,
      (Model.level (Model.slices x0 x1 2) 1 28).1, (Model.level (Model.slices x0 x1 2) 1 28).2, (Model.level (Model.slices x0 x1 2) 1 29).1,
      (Model.level (Model.slices x0 x1 2) 1 29).2, (Model.level (Model.slices x0 x1 2) 1 30).1, (Model.level (Model.slices x0 x1 2) 1 30).2,
      (Model.level (Model.slices x0 x1 2) 1 31).1, (Model.level (Model.slices x0 x1 2) 1 31).2⟩) ?_ ?_
  rotate_left 1
  refine .bind (p := k0_part82 (F := F) i arg1 harg1 arg2 harg2 arg3 harg3 _ _ _ _ _ _ _ _ _ _ _ _ _ _ _ _ _ _ _ _ _ _ _
      _ _ _ _ _ _ _ _ _ _ _ _ _ _ _ _ _ _ _ _ _ _ _ _ _ _ _ _ _ _ _ _ _ _ _ _ _ _ _ _ _)
    (a := ⟨(Model.level (Model.slices x0 x1 2) 2 8).1, (Model.level (Model.slices x0 x1 2) 2 8).2, (Model.level (Model.slices x0 x1 2) 2 9).1,
      (Model.level (Model.slices x0 x1 2) 2 9).2, (Model.level (Model.slices x0 x1 2) 2 10).1, (Model.level (Model.slices x0 x1 2) 2 10).2,
      (Model.level (Model.slices x0 x1 2) 2 11).1, (Model.level (Model.slices x0 x1 2) 2 11).2, (Model.level (Model.slices x0 x1 2) 2 12).1,
      (Model.level (Model.slices x0 x1 2) 2 12).2, (Model.level (Model.slices x0 x1 2) 2 13).1, (Model.level (Model.slices x0 x1 2) 2 13).2,
      (Model.level (Model.slices x0 x1 2) 2 14).1, (Model.level (Model.slices x0 x1 2) 2 14).2, (Model.level (Model.slices x0 x1 2) 2 15).1,
      (Model.level (Model.slices x0 x1 2) 2 15).2, (Model.level (Model.slices x0 x1 2) 3 0).1, (Model.level (Model.slices x0 x1 2) 3 0).2,
      (Model.level (Model.slices x0 x1 2) 3 1).1, (Model.level (Model.slices x0 x1 2) 3 1).2, (Model.level (Model.slices x0 x1 2) 3 2).1,
      (Model.level (Model.slices x0 x1 2) 3 2).2, (Model.level (Model.slices x0 x1 2) 3 3).1, (Model.level (Model.slices x0 x1 2) 3 3).2⟩) ?_ ?_
  rotate_left 1
  refine .bind (p := k0_part83 (F := F) i arg1 harg1 arg2 harg2 arg3 harg3 _ _ _ _ _ _ _ _ _ _ _ _ _ _ _ _ _ _ _ _ _ _ _ _ _ _ _ _)
    (a := ⟨Model.best (Model.slices x0 x1 2), Model.winner (Model.slices x0 x1 2),
      addi (muli (Model.winner (Model.slices x0 x1 2)) (broadcast S128x256 128#32)) (iota .tc S128x256 32 [0] iota_S128x256_d0_w32),
      Model.slices x0 x1 3 0, Model.slices x0 x1 3 1, Model.slices x0 x1 3 2,
      cmpi .eq (Model.winner (Model.slices x0 x1 2)) (broadcast S128x256 3#32), broadcast S128x256 Model.inf⟩) ?_ ?_
  rotate_left 1
  refine .bind (p := k0_part84 (F := F) i arg1 harg1 arg2 harg2 arg3 harg3 _ _ _ _ _ _ _ _ _ _ _ _ _)
    (a := ⟨Model.slices x0 x1 3 3, Model.slices x0 x1 3 4, Model.slices x0 x1 3 5, Model.slices x0 x1 3 6, Model.slices x0 x1 3 7,
      Model.slices x0 x1 3 8, Model.slices x0 x1 3 9, Model.slices x0 x1 3 10, Model.slices x0 x1 3 11, Model.slices x0 x1 3 12,
      cmpi .eq (Model.winner (Model.slices x0 x1 2)) (broadcast S128x256 13#32), broadcast S128x256 Model.inf⟩) ?_ ?_
  rotate_left 1
  refine .bind (p := k0_part85 (F := F) i arg1 harg1 arg2 harg2 arg3 harg3 _ _ _ _ _ _ _ _ _ _ _ _ _)
    (a := ⟨Model.slices x0 x1 3 13, Model.slices x0 x1 3 14, Model.slices x0 x1 3 15, Model.slices x0 x1 3 16, Model.slices x0 x1 3 17,
      Model.slices x0 x1 3 18, Model.slices x0 x1 3 19, Model.slices x0 x1 3 20, Model.slices x0 x1 3 21, Model.slices x0 x1 3 22,
      cmpi .eq (Model.winner (Model.slices x0 x1 2)) (broadcast S128x256 23#32), broadcast S128x256 Model.inf⟩) ?_ ?_
  rotate_left 1
  refine .bind (p := k0_part86 (F := F) i arg1 harg1 arg2 harg2 arg3 harg3 _ _ _ _ _ _ _ _ _ _ _ _ _)
    (a := ⟨Model.slices x0 x1 3 23, Model.slices x0 x1 3 24, Model.slices x0 x1 3 25, Model.slices x0 x1 3 26, Model.slices x0 x1 3 27,
      Model.slices x0 x1 3 28, Model.slices x0 x1 3 29, Model.slices x0 x1 3 30, Model.slices x0 x1 3 31, Model.slices x0 x1 3 32,
      cmpi .eq (Model.winner (Model.slices x0 x1 2)) (broadcast S128x256 33#32), broadcast S128x256 Model.inf⟩) ?_ ?_
  rotate_left 1
  refine .bind (p := k0_part87 (F := F) i arg1 harg1 arg2 harg2 arg3 harg3 _ _ _ _ _ _ _ _ _ _ _ _ _)
    (a := ⟨Model.slices x0 x1 3 33, Model.slices x0 x1 3 34, Model.slices x0 x1 3 35, Model.slices x0 x1 3 36, Model.slices x0 x1 3 37,
      Model.slices x0 x1 3 38, Model.slices x0 x1 3 39, Model.slices x0 x1 3 40, Model.slices x0 x1 3 41, Model.slices x0 x1 3 42,
      cmpi .eq (Model.winner (Model.slices x0 x1 2)) (broadcast S128x256 43#32), broadcast S128x256 Model.inf⟩) ?_ ?_
  rotate_left 1
  refine .bind (p := k0_part88 (F := F) i arg1 harg1 arg2 harg2 arg3 harg3 _ _ _ _ _ _ _ _ _ _ _ _ _)
    (a := ⟨Model.slices x0 x1 3 43, Model.slices x0 x1 3 44, Model.slices x0 x1 3 45, Model.slices x0 x1 3 46, Model.slices x0 x1 3 47,
      Model.slices x0 x1 3 48, Model.slices x0 x1 3 49, Model.slices x0 x1 3 50, Model.slices x0 x1 3 51, Model.slices x0 x1 3 52,
      cmpi .eq (Model.winner (Model.slices x0 x1 2)) (broadcast S128x256 53#32), broadcast S128x256 Model.inf⟩) ?_ ?_
  rotate_left 1
  refine .bind (p := k0_part89 (F := F) i arg1 harg1 arg2 harg2 arg3 harg3 _ _ _ _ _ _ _ _ _ _ _ _ _)
    (a := ⟨Model.slices x0 x1 3 53, Model.slices x0 x1 3 54, Model.slices x0 x1 3 55, Model.slices x0 x1 3 56, Model.slices x0 x1 3 57,
      Model.slices x0 x1 3 58, Model.slices x0 x1 3 59, Model.slices x0 x1 3 60, Model.slices x0 x1 3 61, Model.slices x0 x1 3 62,
      cmpi .eq (Model.winner (Model.slices x0 x1 2)) (broadcast S128x256 63#32), broadcast S128x256 Model.inf⟩) ?_ ?_
  rotate_left 1
  all_goals repeat' first
    | apply Ev.bind
    | apply Ev.load₁
    | apply Ev.load₂
    | exact Ev.ret _

end Cert.KernelIdeal.Hand
end
-- ==== Proof.SecondPart.lean ====
/- The second stretch of the body of the `KernelIdeal` program only reads: it runs the last two tournaments over the slices, selects
   sixteen rows among the candidates, and tests whether these are enough. Each step names the values its stretch hands on. -/
module

public import proofs.«01_k».proof.Proof.Gen.KernelIdeal.Frame
public import proofs.«01_k».proof.Proof.Model

@[expose] public section

set_option maxRecDepth 16384

noncomputable section

namespace Cert.KernelIdeal.Hand

open Cert.KernelIdeal Cert.KernelIdeal.Gen Cert.Reads Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable (i : grid0.Coords) (arg1 : Memref sig .tc .vmem S8192x3 .f32) (harg1 : arg1.IsWhole)
  (arg2 : Memref sig .tc .vmem S8x256 .f32) (harg2 : arg2.IsWhole) (arg3 : Memref sig .tc .vmem S16x256 .i32) (harg3 : arg3.IsWhole)
  (x0 : Vec F S8192x3 .f32) (x1 : Vec F S8x256 .f32)

set_option maxHeartbeats 40000000 in
/-- The second stretch: two more tournaments, the selection among the candidates, and the test. -/
theorem second_part : Ev arg1 arg2 x0 x1 (k0_part112 i arg1 harg1 arg2 harg2 arg3 harg3
        (iota .tc S128x256 32 [0] iota_S128x256_d0_w32) (Model.best (Model.slices x0 x1 0))
        (addi (muli (Model.winner (Model.slices x0 x1 0)) (broadcast S128x256 128#32)) (iota .tc S128x256 32 [0] iota_S128x256_d0_w32))
        (Model.best (Model.slices x0 x1 1))
        (addi (muli (Model.winner (Model.slices x0 x1 1)) (broadcast S128x256 128#32)) (iota .tc S128x256 32 [0] iota_S128x256_d0_w32))
        (Model.slices x0 x1 2 63) (Model.best (Model.slices x0 x1 2))
        (addi (muli (Model.winner (Model.slices x0 x1 2)) (broadcast S128x256 128#32)) (iota .tc S128x256 32 [0] iota_S128x256_d0_w32))
        (Model.slices x0 x1 3 0) (Model.slices x0 x1 3 1) (Model.slices x0 x1 3 2) (Model.slices x0 x1 3 3) (Model.slices x0 x1 3 4)
        (Model.slices x0 x1 3 5) (Model.slices x0 x1 3 6) (Model.slices x0 x1 3 7) (Model.slices x0 x1 3 8) (Model.slices x0 x1 3 9)
        (Model.slices x0 x1 3 10) (Model.slices x0 x1 3 11) (Model.slices x0 x1 3 12) (Model.slices x0 x1 3 13) (Model.slices x0 x1 3 14)
        (Model.slices x0 x1 3 15) (Model.slices x0 x1 3 16) (Model.slices x0 x1 3 17) (Model.slices x0 x1 3 18) (Model.slices x0 x1 3 19)
        (Model.slices x0 x1 3 20) (Model.slices x0 x1 3 21) (Model.slices x0 x1 3 22) (Model.slices x0 x1 3 23) (Model.slices x0 x1 3 24)
        (Model.slices x0 x1 3 25) (Model.slices x0 x1 3 26) (Model.slices x0 x1 3 27) (Model.slices x0 x1 3 28) (Model.slices x0 x1 3 29)
        (Model.slices x0 x1 3 30) (Model.slices x0 x1 3 31) (Model.slices x0 x1 3 32) (Model.slices x0 x1 3 33) (Model.slices x0 x1 3 34)
        (Model.slices x0 x1 3 35) (Model.slices x0 x1 3 36) (Model.slices x0 x1 3 37) (Model.slices x0 x1 3 38) (Model.slices x0 x1 3 39)
        (Model.slices x0 x1 3 40) (Model.slices x0 x1 3 41) (Model.slices x0 x1 3 42) (Model.slices x0 x1 3 43) (Model.slices x0 x1 3 44)
        (Model.slices x0 x1 3 45) (Model.slices x0 x1 3 46) (Model.slices x0 x1 3 47) (Model.slices x0 x1 3 48) (Model.slices x0 x1 3 49)
        (Model.slices x0 x1 3 50) (Model.slices x0 x1 3 51) (Model.slices x0 x1 3 52) (Model.slices x0 x1 3 53) (Model.slices x0 x1 3 54)
        (Model.slices x0 x1 3 55) (Model.slices x0 x1 3 56) (Model.slices x0 x1 3 57) (Model.slices x0 x1 3 58) (Model.slices x0 x1 3 59)
        (Model.slices x0 x1 3 60) (Model.slices x0 x1 3 61) (Model.slices x0 x1 3 62)
        (cmpi .eq (Model.winner (Model.slices x0 x1 2)) (broadcast S128x256 63#32)) (broadcast S128x256 Model.inf))
    ⟨Model.candRow x0 x1 0, Model.candRow x0 x1 1, Model.candRow x0 x1 2, Model.candRow x0 x1 3, Model.candRow x0 x1 4,
      Model.candRow x0 x1 5, Model.candRow x0 x1 6, Model.candRow x0 x1 7, Model.candRow x0 x1 8, Model.candRow x0 x1 9,
      Model.candRow x0 x1 10, Model.candRow x0 x1 11, Model.candRow x0 x1 12, Model.candRow x0 x1 13, Model.candRow x0 x1 14,
      Model.candRow x0 x1 15, Model.bad x0 x1, Scalar.cmpi .ne (Scalar.extui (Scalar.xori (Model.bad x0 x1) 1#1) : BitVec 32) 0#32⟩ := by
  unfold k0_part112
  refine .bind (p := k0_part90 (F := F) i arg1 harg1 arg2 harg2 arg3 harg3 _ _ _ _ _ _ _ _ _ _ _ _ _ _ _ _ _ _ _ _ _)
    (a := ⟨Model.slices x0 x1 3 63, (Model.level (Model.slices x0 x1 3) 1 0).1, (Model.level (Model.slices x0 x1 3) 1 0).2,
      (Model.level (Model.slices x0 x1 3) 1 1).1, (Model.level (Model.slices x0 x1 3) 1 1).2, (Model.level (Model.slices x0 x1 3) 1 2).1,
      (Model.level (Model.slices x0 x1 3) 1 2).2, (Model.level (Model.slices x0 x1 3) 1 3).1, (Model.level (Model.slices x0 x1 3) 1 3).2,
      (Model.level (Model.slices x0 x1 3) 1 4).1, (Model.level (Model.slices x0 x1 3) 1 4).2, (Model.level (Model.slices x0 x1 3) 1 5).1,
      (Model.level (Model.slices x0 x1 3) 1 5).2, (Model.level (Model.slices x0 x1 3) 1 6).1, (Model.level (Model.slices x0 x1 3) 1 6).2,
      (Model.level (Model.slices x0 x1 3) 1 7).1, (Model.level (Model.slices x0 x1 3) 1 7).2,
      cmpf .olt (Model.slices x0 x1 3 17) (Model.slices x0 x1 3 16), (Model.level (Model.slices x0 x1 3) 1 8).1, 17#32⟩) ?_ ?_
  rotate_left 1
  refine .bind (p := k0_part91 (F := F) i arg1 harg1 arg2 harg2 arg3 harg3 _ _ _ _ _ _ _ _ _ _ _ _ _ _ _ _ _ _)
    (a := ⟨(Model.level (Model.slices x0 x1 3) 1 8).2, (Model.level (Model.slices x0 x1 3) 1 9).1, (Model.level (Model.slices x0 x1 3) 1 9).2,
      (Model.level (Model.slices x0 x1 3) 1 10).1, (Model.level (Model.slices x0 x1 3) 1 10).2, (Model.level (Model.slices x0 x1 3) 1 11).1,
      (Model.level (Model.slices x0 x1 3) 1 11).2, (Model.level (Model.slices x0 x1 3) 1 12).1, (Model.level (Model.slices x0 x1 3) 1 12).2,
      (Model.level (Model.slices x0 x1 3) 1 13).1, (Model.level (Model.slices x0 x1 3) 1 13).2, (Model.level (Model.slices x0 x1 3) 1 14).1,
      (Model.level (Model.slices x0 x1 3) 1 14).2, (Model.level (Model.slices x0 x1 3) 1 15).1, (Model.level (Model.slices x0 x1 3) 1 15).2,
      (Model.level (Model.slices x0 x1 3) 1 16).1, (Model.level (Model.slices x0 x1 3) 1 16).2⟩) ?_ ?_
  rotate_left 1
  refine .bind (p := k0_part92 (F := F) i arg1 harg1 arg2 harg2 arg3 harg3 _ _ _ _ _ _ _ _ _ _ _ _ _ _ _ _ _ _)
    (a := ⟨(Model.level (Model.slices x0 x1 3) 1 17).1, (Model.level (Model.slices x0 x1 3) 1 17).2, (Model.level (Model.slices x0 x1 3) 1 18).1,
      (Model.level (Model.slices x0 x1 3) 1 18).2, (Model.level (Model.slices x0 x1 3) 1 19).1, (Model.level (Model.slices x0 x1 3) 1 19).2,
      (Model.level (Model.slices x0 x1 3) 1 20).1, (Model.level (Model.slices x0 x1 3) 1 20).2, (Model.level (Model.slices x0 x1 3) 1 21).1,
      (Model.level (Model.slices x0 x1 3) 1 21).2, (Model.level (Model.slices x0 x1 3) 1 22).1, (Model.level (Model.slices x0 x1 3) 1 22).2,
      (Model.level (Model.slices x0 x1 3) 1 23).1, (Model.level (Model.slices x0 x1 3) 1 23).2, (Model.level (Model.slices x0 x1 3) 1 24).1,
      (Model.level (Model.slices x0 x1 3) 1 24).2, cmpf .olt (Model.slices x0 x1 3 51) (Model.slices x0 x1 3 50),
      (Model.level (Model.slices x0 x1 3) 1 25).1, 51#32, 50#32⟩) ?_ ?_
  rotate_left 1
  refine .bind (p := k0_part93 (F := F) i arg1 harg1 arg2 harg2 arg3 harg3 _ _ _ _ _ _ _ _ _ _ _ _ _ _ _ _ _ _ _ _ _ _ _
      _ _ _ _ _ _ _ _ _ _ _ _)
    (a := ⟨(Model.level (Model.slices x0 x1 3) 1 25).2, (Model.level (Model.slices x0 x1 3) 1 26).1, (Model.level (Model.slices x0 x1 3) 1 26).2,
      (Model.level (Model.slices x0 x1 3) 1 27).1, (Model.level (Model.slices x0 x1 3) 1 27).2, (Model.level (Model.slices x0 x1 3) 1 28).1,
      (Model.level (Model.slices x0 x1 3) 1 28).2, (Model.level (Model.slices x0 x1 3) 1 29).1, (Model.level (Model.slices x0 x1 3) 1 29).2,
      (Model.level (Model.slices x0 x1 3) 1 30).1, (Model.level (Model.slices x0 x1 3) 1 30).2, (Model.level (Model.slices x0 x1 3) 1 31).1,
      (Model.level (Model.slices x0 x1 3) 1 31).2, (Model.level (Model.slices x0 x1 3) 2 0).1, (Model.level (Model.slices x0 x1 3) 2 0).2,
      (Model.level (Model.slices x0 x1 3) 2 1).1, (Model.level (Model.slices x0 x1 3) 2 1).2, (Model.level (Model.slices x0 x1 3) 2 2).1,
      (Model.level (Model.slices x0 x1 3) 2 2).2, (Model.level (Model.slices x0 x1 3) 2 3).1, (Model.level (Model.slices x0 x1 3) 2 3).2,
      (Model.level (Model.slices x0 x1 3) 2 4).1, (Model.level (Model.slices x0 x1 3) 2 4).2⟩) ?_ ?_
  rotate_left 1
  refine .bind (p := k0_part94 (F := F) i arg1 harg1 arg2 harg2 arg3 harg3 _ _ _ _ _ _ _ _ _ _ _ _ _ _ _ _ _ _ _ _ _ _ _
      _ _ _ _ _ _ _ _ _ _ _ _ _ _ _ _ _ _ _ _ _ _ _ _ _ _ _ _ _ _ _)
    (a := ⟨(Model.level (Model.slices x0 x1 3) 3 2).1, (Model.level (Model.slices x0 x1 3) 3 2).2, (Model.level (Model.slices x0 x1 3) 3 3).1,
      (Model.level (Model.slices x0 x1 3) 3 3).2, (Model.level (Model.slices x0 x1 3) 3 4).1, (Model.level (Model.slices x0 x1 3) 3 4).2,
      (Model.level (Model.slices x0 x1 3) 3 5).1, (Model.level (Model.slices x0 x1 3) 3 5).2, (Model.level (Model.slices x0 x1 3) 3 6).1,
      (Model.level (Model.slices x0 x1 3) 3 6).2, (Model.level (Model.slices x0 x1 3) 3 7).1, (Model.level (Model.slices x0 x1 3) 3 7).2,
      (Model.level (Model.slices x0 x1 3) 4 0).1, (Model.level (Model.slices x0 x1 3) 4 0).2⟩) ?_ ?_
  rotate_left 1
  refine .bind (p := k0_part95 (F := F) i arg1 harg1 arg2 harg2 arg3 harg3 _ _ _ _ _ _ _ _ _ _ _ _ _ _ _ _ _ _ _ _ _)
    (a := ⟨Model.best (Model.slices x0 x1 3), Model.winner (Model.slices x0 x1 3),
      addi (muli (Model.winner (Model.slices x0 x1 3)) (broadcast S128x256 128#32)) (iota .tc S128x256 32 [0] iota_S128x256_d0_w32),
      Model.slices x0 x1 4 0, Model.slices x0 x1 4 1, Model.slices x0 x1 4 2, Model.slices x0 x1 4 3, Model.slices x0 x1 4 4,
      Model.slices x0 x1 4 5, broadcast S128x256 6#32⟩) ?_ ?_
  rotate_left 1
  refine .bind (p := k0_part96 (F := F) i arg1 harg1 arg2 harg2 arg3 harg3 _ _ _ _ _ _ _ _ _ _ _ _)
    (a := ⟨Model.slices x0 x1 4 6, Model.slices x0 x1 4 7, Model.slices x0 x1 4 8, Model.slices x0 x1 4 9, Model.slices x0 x1 4 10,
      Model.slices x0 x1 4 11, Model.slices x0 x1 4 12, Model.slices x0 x1 4 13, Model.slices x0 x1 4 14, Model.slices x0 x1 4 15,
      broadcast S128x256 16#32⟩) ?_ ?_
  rotate_left 1
  refine .bind (p := k0_part97 (F := F) i arg1 harg1 arg2 harg2 arg3 harg3 _ _ _ _ _ _ _ _ _ _ _ _)
    (a := ⟨Model.slices x0 x1 4 16, Model.slices x0 x1 4 17, Model.slices x0 x1 4 18, Model.slices x0 x1 4 19, Model.slices x0 x1 4 20,
      Model.slices x0 x1 4 21, Model.slices x0 x1 4 22, Model.slices x0 x1 4 23, Model.slices x0 x1 4 24, Model.slices x0 x1 4 25,
      broadcast S128x256 26#32⟩) ?_ ?_
  rotate_left 1
  refine .bind (p := k0_part98 (F := F) i arg1 harg1 arg2 harg2 arg3 harg3 _ _ _ _ _ _ _ _ _ _ _ _)
    (a := ⟨Model.slices x0 x1 4 26, Model.slices x0 x1 4 27, Model.slices x0 x1 4 28, Model.slices x0 x1 4 29, Model.slices x0 x1 4 30,
      Model.slices x0 x1 4 31, Model.slices x0 x1 4 32, Model.slices x0 x1 4 33, Model.slices x0 x1 4 34, Model.slices x0 x1 4 35,
      broadcast S128x256 36#32⟩) ?_ ?_
  rotate_left 1
  refine .bind (p := k0_part99 (F := F) i arg1 harg1 arg2 harg2 arg3 harg3 _ _ _ _ _ _ _ _ _ _ _ _)
    (a := ⟨Model.slices x0 x1 4 36, Model.slices x0 x1 4 37, Model.slices x0 x1 4 38, Model.slices x0 x1 4 39, Model.slices x0 x1 4 40,
      Model.slices x0 x1 4 41, Model.slices x0 x1 4 42, Model.slices x0 x1 4 43, Model.slices x0 x1 4 44, Model.slices x0 x1 4 45,
      broadcast S128x256 46#32⟩) ?_ ?_
  rotate_left 1
  refine .bind (p := k0_part100 (F := F) i arg1 harg1 arg2 harg2 arg3 harg3 _ _ _ _ _ _ _ _ _ _ _ _)
    (a := ⟨Model.slices x0 x1 4 46, Model.slices x0 x1 4 47, Model.slices x0 x1 4 48, Model.slices x0 x1 4 49, Model.slices x0 x1 4 50,
      Model.slices x0 x1 4 51, Model.slices x0 x1 4 52, Model.slices x0 x1 4 53, Model.slices x0 x1 4 54, Model.slices x0 x1 4 55,
      broadcast S128x256 56#32⟩) ?_ ?_
  rotate_left 1
  refine .bind (p := k0_part101 (F := F) i arg1 harg1 arg2 harg2 arg3 harg3 _ _ _ _ _ _ _ _ _ _ _ _ _ _)
    (a := ⟨Model.slices x0 x1 4 56, Model.slices x0 x1 4 57, Model.slices x0 x1 4 58, Model.slices x0 x1 4 59, Model.slices x0 x1 4 60,
      Model.slices x0 x1 4 61, Model.slices x0 x1 4 62, Model.slices x0 x1 4 63, (Model.level (Model.slices x0 x1 4) 1 0).1,
      (Model.level (Model.slices x0 x1 4) 1 0).2, (Model.level (Model.slices x0 x1 4) 1 1).1, (Model.level (Model.slices x0 x1 4) 1 1).2⟩) ?_ ?_
  rotate_left 1
  refine .bind (p := k0_part102 (F := F) i arg1 harg1 arg2 harg2 arg3 harg3 _ _ _ _ _ _ _ _ _ _ _ _ _ _ _ _ _ _)
    (a := ⟨(Model.level (Model.slices x0 x1 4) 1 2).1, (Model.level (Model.slices x0 x1 4) 1 2).2, (Model.level (Model.slices x0 x1 4) 1 3).1,
      (Model.level (Model.slices x0 x1 4) 1 3).2, (Model.level (Model.slices x0 x1 4) 1 4).1, (Model.level (Model.slices x0 x1 4) 1 4).2,
      (Model.level (Model.slices x0 x1 4) 1 5).1, (Model.level (Model.slices x0 x1 4) 1 5).2, (Model.level (Model.slices x0 x1 4) 1 6).1,
      (Model.level (Model.slices x0 x1 4) 1 6).2, (Model.level (Model.slices x0 x1 4) 1 7).1, (Model.level (Model.slices x0 x1 4) 1 7).2,
      (Model.level (Model.slices x0 x1 4) 1 8).1, (Model.level (Model.slices x0 x1 4) 1 8).2, (Model.level (Model.slices x0 x1 4) 1 9).1,
      (Model.level (Model.slices x0 x1 4) 1 9).2, cmpf .olt (Model.slices x0 x1 4 21) (Model.slices x0 x1 4 20),
      (Model.level (Model.slices x0 x1 4) 1 10).1, 21#32, 20#32⟩) ?_ ?_
  rotate_left 1
  refine .bind (p := k0_part103 (F := F) i arg1 harg1 arg2 harg2 arg3 harg3 _ _ _ _ _ _ _ _ _ _ _ _ _ _ _ _ _ _ _ _ _)
    (a := ⟨(Model.level (Model.slices x0 x1 4) 1 10).2, (Model.level (Model.slices x0 x1 4) 1 11).1, (Model.level (Model.slices x0 x1 4) 1 11).2,
      (Model.level (Model.slices x0 x1 4) 1 12).1, (Model.level (Model.slices x0 x1 4) 1 12).2, (Model.level (Model.slices x0 x1 4) 1 13).1,
      (Model.level (Model.slices x0 x1 4) 1 13).2, (Model.level (Model.slices x0 x1 4) 1 14).1, (Model.level (Model.slices x0 x1 4) 1 14).2,
      (Model.level (Model.slices x0 x1 4) 1 15).1, (Model.level (Model.slices x0 x1 4) 1 15).2, (Model.level (Model.slices x0 x1 4) 1 16).1,
      (Model.level (Model.slices x0 x1 4) 1 16).2, (Model.level (Model.slices x0 x1 4) 1 17).1, (Model.level (Model.slices x0 x1 4) 1 17).2,
      (Model.level (Model.slices x0 x1 4) 1 18).1, (Model.level (Model.slices x0 x1 4) 1 18).2,
      cmpf .olt (Model.slices x0 x1 4 39) (Model.slices x0 x1 4 38)⟩) ?_ ?_
  rotate_left 1
  refine .bind (p := k0_part104 (F := F) i arg1 harg1 arg2 harg2 arg3 harg3 _ _ _ _ _ _ _ _ _ _ _ _ _ _ _ _ _ _ _)
    (a := ⟨(Model.level (Model.slices x0 x1 4) 1 19).1, (Model.level (Model.slices x0 x1 4) 1 19).2, (Model.level (Model.slices x0 x1 4) 1 20).1,
      (Model.level (Model.slices x0 x1 4) 1 20).2, (Model.level (Model.slices x0 x1 4) 1 21).1, (Model.level (Model.slices x0 x1 4) 1 21).2,
      (Model.level (Model.slices x0 x1 4) 1 22).1, (Model.level (Model.slices x0 x1 4) 1 22).2, (Model.level (Model.slices x0 x1 4) 1 23).1,
      (Model.level (Model.slices x0 x1 4) 1 23).2, (Model.level (Model.slices x0 x1 4) 1 24).1, (Model.level (Model.slices x0 x1 4) 1 24).2,
      (Model.level (Model.slices x0 x1 4) 1 25).1, (Model.level (Model.slices x0 x1 4) 1 25).2, (Model.level (Model.slices x0 x1 4) 1 26).1,
      (Model.level (Model.slices x0 x1 4) 1 26).2, cmpf .olt (Model.slices x0 x1 4 55) (Model.slices x0 x1 4 54),
      (Model.level (Model.slices x0 x1 4) 1 27).1, 54#32, broadcast S128x256 55#32⟩) ?_ ?_
  rotate_left 1
  refine .bind (p := k0_part105 (F := F) i arg1 harg1 arg2 harg2 arg3 harg3 _ _ _ _ _ _ _ _ _ _ _ _ _ _ _ _ _ _ _ _ _ _ _
      _ _ _ _ _ _ _ _ _ _ _ _ _ _ _ _ _ _ _ _ _ _ _ _ _ _ _ _)
    (a := ⟨(Model.level (Model.slices x0 x1 4) 1 27).2, (Model.level (Model.slices x0 x1 4) 1 28).1, (Model.level (Model.slices x0 x1 4) 1 28).2,
      (Model.level (Model.slices x0 x1 4) 1 29).1, (Model.level (Model.slices x0 x1 4) 1 29).2, (Model.level (Model.slices x0 x1 4) 1 30).1,
      (Model.level (Model.slices x0 x1 4) 1 30).2, (Model.level (Model.slices x0 x1 4) 1 31).1, (Model.level (Model.slices x0 x1 4) 1 31).2,
      (Model.level (Model.slices x0 x1 4) 2 0).1, (Model.level (Model.slices x0 x1 4) 2 0).2, (Model.level (Model.slices x0 x1 4) 2 1).1,
      (Model.level (Model.slices x0 x1 4) 2 1).2, (Model.level (Model.slices x0 x1 4) 2 2).1, (Model.level (Model.slices x0 x1 4) 2 2).2,
      (Model.level (Model.slices x0 x1 4) 2 3).1, (Model.level (Model.slices x0 x1 4) 2 3).2, (Model.level (Model.slices x0 x1 4) 2 4).1,
      (Model.level (Model.slices x0 x1 4) 2 4).2, (Model.level (Model.slices x0 x1 4) 2 5).1, (Model.level (Model.slices x0 x1 4) 2 5).2,
      (Model.level (Model.slices x0 x1 4) 2 6).1, (Model.level (Model.slices x0 x1 4) 2 6).2, (Model.level (Model.slices x0 x1 4) 2 7).1,
      (Model.level (Model.slices x0 x1 4) 2 7).2, (Model.level (Model.slices x0 x1 4) 2 8).1, (Model.level (Model.slices x0 x1 4) 2 8).2,
      (Model.level (Model.slices x0 x1 4) 2 9).1, (Model.level (Model.slices x0 x1 4) 2 9).2⟩) ?_ ?_
  rotate_left 1
  refine .bind (p := k0_part106 (F := F) i arg1 harg1 arg2 harg2 arg3 harg3 _ _ _ _ _ _ _ _ _ _ _ _ _ _ _ _ _ _ _ _ _ _ _
      _ _ _ _ _ _ _ _ _ _ _ _ _ _ _ _ _ _ _ _ _)
    (a := ⟨(Model.level (Model.slices x0 x1 4) 5 0).1, (Model.level (Model.slices x0 x1 4) 5 0).2, (Model.level (Model.slices x0 x1 4) 5 1).1,
      (Model.level (Model.slices x0 x1 4) 5 1).2⟩) ?_ ?_
  rotate_left 1
  refine .bind (p := k0_part107 (F := F) i arg1 harg1 arg2 harg2 arg3 harg3 _ _ _ _ _ _ _ _ _ _ _ _ _)
    (a := ⟨Model.best (Model.slices x0 x1 4), Model.candI x0 x1, Model.candRow x0 x1 0, Model.candRow x0 x1 1, Model.candRow x0 x1 2,
      Model.left broadcasts_S1x256_S640x256 reduces_S640x256_S256 (Model.candV x0 x1) (Model.candI x0 x1) 3,
      Model.minRow reduces_S640x256_S256 (Model.left broadcasts_S1x256_S640x256 reduces_S640x256_S256 (Model.candV x0 x1)
        (Model.candI x0 x1) 3)⟩) ?_ ?_
  rotate_left 1
  refine .bind (p := k0_part108 (F := F) i arg1 harg1 arg2 harg2 arg3 harg3 _ _ _)
    (a := ⟨Model.candRow x0 x1 3, Model.candRow x0 x1 4, Model.candRow x0 x1 5,
      Model.left broadcasts_S1x256_S640x256 reduces_S640x256_S256 (Model.candV x0 x1) (Model.candI x0 x1) 6, Model.candRow x0 x1 6,
      cmpi .eq (Model.candI x0 x1) (broadcastTo S640x256 (Model.candRow x0 x1 6) broadcasts_S1x256_S640x256), broadcast S640x256 Model.inf⟩) ?_ ?_
  rotate_left 1
  refine .bind (p := k0_part109 (F := F) i arg1 harg1 arg2 harg2 arg3 harg3 _ _ _ _)
    (a := ⟨Model.candRow x0 x1 7, Model.candRow x0 x1 8, Model.candRow x0 x1 9,
      Model.left broadcasts_S1x256_S640x256 reduces_S640x256_S256 (Model.candV x0 x1) (Model.candI x0 x1) 10, Model.candRow x0 x1 10⟩) ?_ ?_
  rotate_left 1
  refine .bind (p := k0_part110 (F := F) i arg1 harg1 arg2 harg2 arg3 harg3 _ _ _)
    (a := ⟨Model.candRow x0 x1 11, Model.candRow x0 x1 12, Model.candRow x0 x1 13,
      Model.left broadcasts_S1x256_S640x256 reduces_S640x256_S256 (Model.candV x0 x1) (Model.candI x0 x1) 14,
      cmpf .oeq (Model.left broadcasts_S1x256_S640x256 reduces_S640x256_S256 (Model.candV x0 x1) (Model.candI x0 x1) 14)
        (broadcastTo S640x256 (Model.minRow reduces_S640x256_S256 (Model.left broadcasts_S1x256_S640x256 reduces_S640x256_S256
          (Model.candV x0 x1) (Model.candI x0 x1) 14)) broadcasts_S1x256_S640x256),
      broadcast S640x256 1073741824#32⟩) ?_ ?_
  rotate_left 1
  all_goals repeat' first
    | apply Ev.bind
    | apply Ev.load₁
    | apply Ev.load₂
    | exact Ev.ret _

end Cert.KernelIdeal.Hand
end
-- ==== Proof.ThirdPart.lean ====
/- The guarded stretch of the body of the `KernelIdeal` program only reads: it selects sixteen rows among all the points. Of the
   stretches that select, the values they hand on are named. -/
module

public import proofs.«01_k».proof.Proof.Gen.KernelIdeal.Frame
public import proofs.«01_k».proof.Proof.Model

@[expose] public section

set_option maxRecDepth 16384

noncomputable section

namespace Cert.KernelIdeal.Hand

open Cert.KernelIdeal Cert.KernelIdeal.Gen Cert.Reads Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable (i : grid0.Coords) (arg1 : Memref sig .tc .vmem S8192x3 .f32) (harg1 : arg1.IsWhole)
  (arg2 : Memref sig .tc .vmem S8x256 .f32) (harg2 : arg2.IsWhole) (arg3 : Memref sig .tc .vmem S16x256 .i32) (harg3 : arg3.IsWhole)
  (x0 : Vec F S8192x3 .f32) (x1 : Vec F S8x256 .f32)

set_option maxHeartbeats 40000000 in
/-- The selection among all the points. -/
theorem third_part : Ev arg1 arg2 x0 x1 (k0_part29 i arg1 harg1 arg2 harg2 arg3 harg3
        (Model.colRow x1 0) (Model.colRow x1 1) (Model.colRow x1 2))
    ⟨iota .tc S8192x256 32 [0] iota_S8192x256_d0_w32, Model.allRow x0 x1 0, Model.allRow x0 x1 1, Model.allRow x0 x1 2,
      Model.allRow x0 x1 3, Model.allRow x0 x1 4, Model.allRow x0 x1 5, Model.allRow x0 x1 6, Model.allRow x0 x1 7, Model.allRow x0 x1 8,
      Model.allRow x0 x1 9, Model.allRow x0 x1 10, Model.allRow x0 x1 11, Model.allRow x0 x1 12, Model.allRow x0 x1 13,
      Model.left broadcasts_S1x256_S8192x256 reduces_S8192x256_S256 (Model.all x0 x1) (iota .tc S8192x256 32 [0] iota_S8192x256_d0_w32) 14,
      Model.allRow x0 x1 14,
      cmpi .eq (iota .tc S8192x256 32 [0] iota_S8192x256_d0_w32) (broadcastTo S8192x256 (Model.allRow x0 x1 14) broadcasts_S1x256_S8192x256),
      Model.inf⟩ := by
  refine Ev.to (a := ?a) ?h ?e
  case h =>
    unfold k0_part29
    repeat' first
      | ((with_reducible
          show Ev arg1 arg2 x0 x1 (k0_part25 i arg1 harg1 arg2 harg2 arg3 harg3
              _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
                 _ _ _) _)
         refine Ev.to (a := ?_) (p := k0_part25 (F := F) i arg1 harg1 arg2 harg2 arg3 harg3
              _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            (b := ⟨iota .tc S8192x256 32 [0] iota_S8192x256_d0_w32, Model.allRow x0 x1 0,
              Model.left broadcasts_S1x256_S8192x256 reduces_S8192x256_S256 (Model.all x0 x1) (iota .tc S8192x256 32 [0] iota_S8192x256_d0_w32) 1,
              multiReductionI .minsi [0] S256 (select (cmpf .oeq (Model.left broadcasts_S1x256_S8192x256 reduces_S8192x256_S256
                (Model.all x0 x1) (iota .tc S8192x256 32 [0] iota_S8192x256_d0_w32) 1) (broadcastTo S8192x256
                  (Model.minRow reduces_S8192x256_S256 (Model.left broadcasts_S1x256_S8192x256 reduces_S8192x256_S256 (Model.all x0 x1)
                    (iota .tc S8192x256 32 [0] iota_S8192x256_d0_w32) 1)) broadcasts_S1x256_S8192x256))
                      (iota .tc S8192x256 32 [0] iota_S8192x256_d0_w32)
                        (broadcast S8192x256 1073741824#32)) 2147483647#32 reduces_S8192x256_S256 rfl⟩) ?_ ?_) <;> (first
        | exact rfl
        | (repeat' first
            | apply Ev.bind
            | apply Ev.load₁
            | apply Ev.load₂
            | exact Ev.ret _))
      | ((with_reducible
          show Ev arg1 arg2 x0 x1 (k0_part26 i arg1 harg1 arg2 harg2 arg3 harg3
              _ _ _) _)
         refine Ev.to (a := ?_) (p := k0_part26 (F := F) i arg1 harg1 arg2 harg2 arg3 harg3
              _ _ _)
            (b := ⟨Model.allRow x0 x1 1, Model.allRow x0 x1 2, Model.allRow x0 x1 3, Model.allRow x0 x1 4,
              Model.left broadcasts_S1x256_S8192x256 reduces_S8192x256_S256 (Model.all x0 x1) (iota .tc S8192x256 32 [0] iota_S8192x256_d0_w32) 5,
              cmpf .oeq (Model.left broadcasts_S1x256_S8192x256 reduces_S8192x256_S256 (Model.all x0 x1)
                (iota .tc S8192x256 32 [0] iota_S8192x256_d0_w32) 5) (broadcastTo S8192x256 (Model.minRow reduces_S8192x256_S256
                  (Model.left broadcasts_S1x256_S8192x256 reduces_S8192x256_S256 (Model.all x0 x1)
                    (iota .tc S8192x256 32 [0] iota_S8192x256_d0_w32) 5)) broadcasts_S1x256_S8192x256),
              1073741824#32⟩) ?_ ?_) <;> (first
        | exact rfl
        | (repeat' first
            | apply Ev.bind
            | apply Ev.load₁
            | apply Ev.load₂
            | exact Ev.ret _))
      | ((with_reducible
          show Ev arg1 arg2 x0 x1 (k0_part27 i arg1 harg1 arg2 harg2 arg3 harg3
              _ _ _ _) _)
         refine Ev.to (a := ?_) (p := k0_part27 (F := F) i arg1 harg1 arg2 harg2 arg3 harg3
              _ _ _ _)
            (b := ⟨Model.allRow x0 x1 5, Model.allRow x0 x1 6, Model.allRow x0 x1 7, Model.allRow x0 x1 8,
              Model.left broadcasts_S1x256_S8192x256 reduces_S8192x256_S256 (Model.all x0 x1) (iota .tc S8192x256 32 [0] iota_S8192x256_d0_w32) 9,
              multiReduction .minimumf [0] S256 (Model.left broadcasts_S1x256_S8192x256 reduces_S8192x256_S256 (Model.all x0 x1)
                (iota .tc S8192x256 32 [0] iota_S8192x256_d0_w32) 9) 0x7F800000#32 reduces_S8192x256_S256 (.inl rfl) rfl⟩) ?_ ?_) <;> (first
        | exact rfl
        | (repeat' first
            | apply Ev.bind
            | apply Ev.load₁
            | apply Ev.load₂
            | exact Ev.ret _))
      | ((with_reducible
          show Ev arg1 arg2 x0 x1 (k0_part28 i arg1 harg1 arg2 harg2 arg3 harg3
              _ _ _) _)
         refine Ev.to (a := ?_) (p := k0_part28 (F := F) i arg1 harg1 arg2 harg2 arg3 harg3
              _ _ _)
            (b := ⟨Model.allRow x0 x1 9, Model.allRow x0 x1 10, Model.allRow x0 x1 11,
              Model.left broadcasts_S1x256_S8192x256 reduces_S8192x256_S256 (Model.all x0 x1) (iota .tc S8192x256 32 [0] iota_S8192x256_d0_w32) 12,
              Model.allRow x0 x1 12,
              cmpi .eq (iota .tc S8192x256 32 [0] iota_S8192x256_d0_w32) (broadcastTo S8192x256 (Model.allRow x0 x1 12) broadcasts_S1x256_S8192x256),
              Model.inf⟩) ?_ ?_) <;> (first
        | exact rfl
        | (repeat' first
            | apply Ev.bind
            | apply Ev.load₁
            | apply Ev.load₂
            | exact Ev.ret _))
      | apply Ev.bind
      | apply Ev.load₁
      | apply Ev.load₂
      | exact Ev.ret _
  case e => exact rfl

end Cert.KernelIdeal.Hand
end
-- ==== Proof.KernelIdealReads.lean ====
/- The body of the `KernelIdeal` program: its straight-line stretches only read, and it leaves in the output's buffer the block
   that the model stores. -/
module

public import proofs.«01_k».proof.Proof.Gen.KernelIdeal.Frame
public import proofs.«01_k».proof.Proof.FirstPart
public import proofs.«01_k».proof.Proof.SecondPart
public import proofs.«01_k».proof.Proof.ThirdPart

@[expose] public section

set_option maxRecDepth 16384

noncomputable section

namespace Cert.KernelIdeal.Hand

open Cert.KernelIdeal Cert.KernelIdeal.Gen Cert.Reads Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable (i : grid0.Coords) (arg1 : Memref sig .tc .vmem S8192x3 .f32) (harg1 : arg1.IsWhole)
  (arg2 : Memref sig .tc .vmem S8x256 .f32) (harg2 : arg2.IsWhole) (arg3 : Memref sig .tc .vmem S16x256 .i32) (harg3 : arg3.IsWhole)
  (x0 : Vec F S8192x3 .f32) (x1 : Vec F S8x256 .f32)

/-- What a body of this program leaves in the output's buffer. -/
abbrev LeavesK (p : Prog (TpuEff nD τ sig (Elt F) Λ₀ .tc) PUnit) (v : Vec F S16x256 .i32) : Prop :=
  Leaves Unit ℕ (UR sig nD τ) ℕ (defs₀ (F := F)) Variants.none arg1 arg2 arg3 x0 x1 p v

/-- The box of the whole output block. -/
abbrev whole : Rect S16x256 := Rect.unit (s := S16x256) ![0, 0] S16x256.size inb_S16x256_S16x256_0_0

/-- Storing a whole block leaves it there. -/
theorem leaves_store (w : Vec F S16x256 .i32) :
    LeavesK arg1 arg2 arg3 x0 x1 (do
      let _ : Vec F S16x256 .i32 ← Prog.lift (.load arg3 whole.toLoadRect (View.loadsAt_vmem h_S16x256))
      Prog.lift (.store arg3 whole w Finset.univ (View.stores_vmem_bits_univ h_S16x256 rfl) (.inl rfl))
      pure ⟨⟩) (View.canon [⟨whole, w⟩]) := by
  intro c E Q
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled [⟨whole, w⟩] S16x256.size (by rfl))

/-- The same with the block written otherwise. -/
theorem leaves_store_eq (w w' : Vec F S16x256 .i32) (e : w = w') :
    LeavesK arg1 arg2 arg3 x0 x1 (do
      let _ : Vec F S16x256 .i32 ← Prog.lift (.load arg3 whole.toLoadRect (View.loadsAt_vmem h_S16x256))
      Prog.lift (.store arg3 whole w Finset.univ (View.stores_vmem_bits_univ h_S16x256 rfl) (.inl rfl))
      pure ⟨⟩) (View.canon [⟨whole, w'⟩]) := e ▸ leaves_store arg1 arg2 arg3 x0 x1 w

/-- One bit decides which of the two guarded stores runs. -/
theorem one_of_two (b : BitVec 1) :
    (Scalar.cmpi .ne (Scalar.extui (Scalar.xori b 1#1) : BitVec 32) 0#32 = 1#1 ∧ ¬ Scalar.cmpi .ne (Scalar.extui b : BitVec 32) 0#32 = 1#1)
      ∨ (¬ Scalar.cmpi .ne (Scalar.extui (Scalar.xori b 1#1) : BitVec 32) 0#32 = 1#1 ∧ Scalar.cmpi .ne (Scalar.extui b : BitVec 32) 0#32 = 1#1) := by
  revert b; decide

/-- Reading first changes nothing: what follows may be looked at before the value read is put in. -/
theorem leaves_bind {α : Type} {p : Prog (TpuEff nD τ sig (Elt F) Λ₀ .tc) α} {k : α → Prog (TpuEff nD τ sig (Elt F) Λ₀ .tc) PUnit} {a : α}
    {v : Vec F S16x256 .i32} (h : Ev arg1 arg2 x0 x1 p a) (h' : ∀ b, b = a → LeavesK arg1 arg2 arg3 x0 x1 (k b) v) :
    LeavesK arg1 arg2 arg3 x0 x1 (p >>= k) v := Leaves.bind h (h' a rfl)

set_option maxHeartbeats 40000000 in
/-- The body leaves `stored` in the output's buffer. -/
theorem leaves_body : LeavesK arg1 arg2 arg3 x0 x1 (cc0__knn_block_kernel i arg1 harg1 arg2 harg2 arg3 harg3)
    (View.canon [⟨whole, Model.stored x0 x1⟩]) := by
  unfold cc0__knn_block_kernel
  refine leaves_bind arg1 arg2 arg3 x0 x1 (first_part i arg1 harg1 arg2 harg2 arg3 harg3 x0 x1) fun a ha => ?_
  refine leaves_bind arg1 arg2 arg3 x0 x1 (a := ?val) ?read fun b hb => ?rest
  case read => rw [ha]; exact second_part i arg1 harg1 arg2 harg2 arg3 harg3 x0 x1
  case rest =>
  rw [hb]
  dsimp only
  unfold Model.stored
  rcases one_of_two (Model.bad x0 x1) with ⟨h, h'⟩ | ⟨h, h'⟩
  · rw [if_pos h, if_neg h', if_neg fun e => h' (by rw [e]; decide)]
    exact leaves_store arg1 arg2 arg3 x0 x1 _
  · rw [if_neg h, if_pos h', if_pos (by revert h'; generalize Model.bad x0 x1 = b; revert b; decide)]
    refine leaves_bind arg1 arg2 arg3 x0 x1 (a := ?val') ?read' fun c hc => ?rest'
    case read' => rw [ha]; exact third_part i arg1 harg1 arg2 harg2 arg3 harg3 x0 x1
    case rest' =>
    rw [hc]
    dsimp only
    refine leaves_store_eq arg1 arg2 arg3 x0 x1 _ _ ?eq
    case eq => exact rfl

end Cert.KernelIdeal.Hand
end
-- ==== Proof.HostLines.lean ====
/- What the host operations around the launch compute: the points' coordinates as rows before it, the two results after it. -/
module

public import proofs.«01_k».proof.Proof.Gen.KernelIdeal.Frame

@[expose] public section

noncomputable section

namespace Cert.KernelIdeal.Lines

open Cert.KernelIdeal Cert.KernelIdeal.Gen Idealize.ShloMosaic Idealize.ShloMosaic.TcCoe Idealize.ShloMosaic.StableHlo
open Idealize.SL.Sem

variable {F : FTy → Type} [FloatOps F]

/-- The points' coordinates written into the first rows of an array of zeros. -/
abbrev cols (p : FVec F S8192x3 .f32) : FVec F S8x8192 .f32 :=
  Host.scatter scatter_S8x8192_S1_S3x8192_01_n_0_0 (fun _ b => b) (broadcastInDim S8x8192 ![] bcast_S_S8x8192 (constant S_ .f32 0x00000000#32))
    (broadcastInDim S1 ![] bcast_S_S1 (constantI S_ 32 0#32)) (transpose S3x8192 [1, 0] p transposes_S8192x3_S3x8192_1_0)

/-- Which rows are active, along the places. -/
abbrev mask (a : IVec S8192 1) : IVec S8192x16 1 :=
  broadcastInDim S8192x16 ![0, 1] bcast_S8192x1_S8192x16_0_1 (broadcastInDim S8192x1 ![0] bcast_S8192_S8192x1_0 a)

/-- The last row's number everywhere. -/
abbrev lastRow : IVec S8192x16 32 := broadcastInDim S8192x16 ![] bcast_S_S8192x16 (id (constantI S_ 32 8191#32))

/-- Each row's own number, along the places. -/
abbrev ownRow : IVec S8192x16 32 :=
  broadcastInDim S8192x16 ![0, 1] bcast_S8192x1_S8192x16_0_1 (broadcastInDim S8192x1 ![0] bcast_S8192_S8192x1_0 (iotaInDim S8192 32 0))

set_option maxHeartbeats 2000000 in
/-- The operations before the launch leave `cols` of the points. -/
theorem before_launch (W : Valuation τ sig (Elt F)) :
    after hostOps0 W (Proc.devRef .tc main_call0_v3) = cols (W (Proc.devRef .tc main_arg0)) := by
  simp only [hostOps0, TRef.ternary, TRef.unary, TRef.nullary, TRef.reshape, TRef.toBuf, TRef.ofBuf, cast_eq]
  after_results <;> rfl

set_option maxHeartbeats 2000000 in
/-- The first result, from the launch's output. -/
theorem first_result (W : Valuation τ sig (Elt F)) :
    after hostOps1 W (Proc.devRef .tc main_v0_0)
      = shapeCast S131072 (select (mask (W (Proc.devRef .tc main_arg1)))
          (transpose S8192x16 [1, 0] (W (Proc.devRef .tc main_call0_v4)) transposes_S16x8192_S8192x16_1_0) lastRow) shapeCasts_S8192x16_S131072 := by
  simp only [hostOps1, TRef.ternary, TRef.unary, TRef.nullary, TRef.reshape, TRef.toBuf, TRef.ofBuf, cast_eq]
  after_results <;> rfl

set_option maxHeartbeats 2000000 in
/-- The second result. -/
theorem second_result (W : Valuation τ sig (Elt F)) :
    after hostOps1 W (Proc.devRef .tc main_v0_1)
      = shapeCast S131072 (select (mask (W (Proc.devRef .tc main_arg1))) ownRow lastRow) shapeCasts_S8192x16_S131072 := by
  simp only [hostOps1, TRef.ternary, TRef.unary, TRef.nullary, TRef.reshape, TRef.toBuf, TRef.ofBuf, cast_eq]
  after_results <;> rfl

end Cert.KernelIdeal.Lines
end
-- ==== Proof.Prefix.lean ====
/- What the operations before the launch put into the rows of the coordinate array. -/
module

public import proofs.«01_k».proof.Proof.HostLines
public import Idealize.ShloMosaic.Lib.Routing.OpsPair
public import Idealize.ShloMosaic.Lib.Routing.OpsSet
public import Idealize.ShloMosaic.Lib.Pipeline.Value

@[expose] public section

noncomputable section

namespace Cert.KernelIdeal.Lines

open Cert.KernelIdeal Cert.KernelIdeal.Gen Idealize.ShloMosaic

variable {F : FTy → Type} [FloatOps F]

/-- Written at offset zero, the entry (c, q) of the update goes to the entry (c, q) of the array. -/
theorem lands (idx : IVec S1 32) (hidx : ∀ x, idx x = 0#32) (j : S3x8192.Idx) (r : Fin 8) (q : Fin 8192) :
    scatter_S8x8192_S1_S3x8192_01_n_0_0.resultIdx? j idx = some (ValueIdx.ix2 r q) ↔ (j 0).val = r.val ∧ (j 1).val = q.val := by
  have hs : ∀ a, scatter_S8x8192_S1_S3x8192_01_n_0_0.start j idx a = 0 := by
    intro a
    unfold ScatterDims.start
    split
    · rw [hidx]; rfl
    · rfl
  have h0 : scatter_S8x8192_S1_S3x8192_01_n_0_0.window j 0 = (j 0).val := rfl
  have h1 : scatter_S8x8192_S1_S3x8192_01_n_0_0.window j 1 = (j 1).val := rfl
  refine (Routing.resultIdx?_ix2 scatter_S8x8192_S1_S3x8192_01_n_0_0 j idx r q).trans ?_
  rw [hs, hs, h0, h1]
  omega

/-- Row `c` of the coordinate array is coordinate `c` of the points. -/
theorem cols_at (p : FVec F S8192x3 .f32) (c : Fin 3) (q : Fin 8192) :
    cols p (ValueIdx.ix2 (⟨c.val, lt_of_lt_of_le c.isLt (by decide)⟩ : Fin 8) q) = p (ValueIdx.ix2 q c) := by
  have hx : ∀ x, broadcastInDim S1 ![] bcast_S_S1 (constantI S_ 32 0#32) x = 0#32 := fun x =>
    broadcastInDim_apply _ _ _ x (fun a => a.elim0) (fun a => a.elim0)
  refine Routing.scatter_set_hit _ _ _ _ _ _ (fun j hj => ?_) (ValueIdx.ix2 c q) ((lands _ hx _ _ _).2 ⟨rfl, rfl⟩)
  obtain ⟨h0, h1⟩ := (lands _ hx _ _ _).1 hj
  refine transpose_apply _ _ _ j _ fun a => ?_
  match a with
  | ⟨0, _⟩ => exact h0.symm
  | ⟨1, _⟩ => exact h1.symm

end Cert.KernelIdeal.Lines
end
-- ==== Proof.KernelIdealData.lean ====
/- The contents of the arrays and buffers of the `KernelIdeal` program's launch at each grid point. -/
module

public import proofs.«01_k».proof.Proof.Prefix
public import proofs.«01_k».proof.Proof.Model
public import Idealize.ShloMosaic.Lib.Pipeline.ValueKit

@[expose] public section

set_option maxRecDepth 16384

noncomputable section

namespace Cert.KernelIdeal.Hand

open Cert.KernelIdeal Cert.KernelIdeal.Gen Idealize.ShloMosaic Idealize.ShloMosaic.TcCoe Idealize.ShloMosaic.Tactic
open Idealize.SL Idealize.SL.RA Idealize.SL.Sem
open Idealize.ShloMosaic.Pipeline (Dat Cfg Window)

variable {F : FTy → Type} [FloatOps F]
variable (m : (ℓ : Loc nD τ sig) → Buf (Elt F) ℓ)

/-- The proof data: each array as the region finds it; after a point's body the inputs' buffers at their blocks and
    the output's at what the body stores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => Model.stored (iblk m c 0 t) (iblk m c 1 t)
  Φ _ := Pipeline.ΦA spec0 c
  q _ := fullShare
  owed _ := 0

theorem dats_A (c : Dev nD) (w : Fin cfg0.W) : (dats m 0 c).A w = V m c (Pipeline.arrRef spec0 w) := by dsimp only [dats]
theorem dats_after_0 (c : Dev nD) (t : Fin cfg0.N) : (dats m 0 c).after 0 t = iblk m c 0 t := by dsimp only [dats]
theorem dats_after_1 (c : Dev nD) (t : Fin cfg0.N) : (dats m 0 c).after 1 t = iblk m c 1 t := by dsimp only [dats]
theorem dats_after_2 (c : Dev nD) (t : Fin cfg0.N) : (dats m 0 c).after 2 t = Model.stored (iblk m c 0 t) (iblk m c 1 t) := by
  dsimp only [dats]

/-- The block of the points is all of them. -/
theorem index_0 : ∀ t : Fin cfg0.N, win0_0.index t = ![0, 0] := (by decide +kernel : ∀ t : Fin grid0.N, _)
/-- The block of the coordinate rows at point `t` is the `t`-th stretch of 256 columns. -/
theorem index_1 : ∀ t : Fin cfg0.N, win0_1.index t = ![0, t.val] := (by decide +kernel : ∀ t : Fin grid0.N, _)
/-- So is the output's block. -/
theorem index_2 : ∀ t : Fin cfg0.N, win0_2.index t = ![0, t.val] := (by decide +kernel : ∀ t : Fin grid0.N, _)

/-- The first input's block is the array of points. -/
theorem points_block (c : Dev nD) (t : Fin cfg0.N) : iblk m c 0 t = m ((c.tc : Thread nD τ).loc main_arg0) := by
  rw [← V_main_arg0 m c]
  funext y
  blk_ext! [iblk, index_0 t]

/-- The second input's block at point `t` holds the coordinates of points 256 t to 256 t + 255. -/
theorem columns_block (c : Dev nD) (t : Fin cfg0.N) (a : Fin 3) (q : Fin 256) (i : Fin 8192) (hi : i.val = 256 * t.val + q.val) :
    iblk m c 1 t (ValueIdx.ix2 (⟨a.val, lt_of_lt_of_le a.isLt (by decide)⟩ : Fin 8) q)
      = m ((c.tc : Thread nD τ).loc main_arg0) (ValueIdx.ix2 i a) := by
  have hV : V m c main_call0_v3 = Lines.cols (m ((c.tc : Thread nD τ).loc main_arg0)) := Lines.before_launch (fun b => m (c, b))
  refine Eq.trans ?_ (Lines.cols_at _ a i)
  rw [← hV]
  blk_simp [iblk]
  refine congrArg (V m c main_call0_v3) (Shape.idx_ext₂ (n := ![8, 8192]) ?_ ?_)
  · blk_simp [index_1 t]
  · blk_simp [index_1 t]
    show t.val * 256 + q.val = i.val
    omega

end Cert.KernelIdeal.Hand
end
-- ==== Proof.KernelIdealLaunch.lean ====
/- The launch of the `KernelIdeal` program: what its body leaves at each grid point, the run, and the frame. -/
module

public import proofs.«01_k».proof.Proof.KernelIdealReads
public import proofs.«01_k».proof.Proof.KernelIdealData
public import Idealize.ShloMosaic.Lib.Claim

@[expose] public section

noncomputable section

namespace Cert.KernelIdeal.Hand

open Cert.KernelIdeal Cert.KernelIdeal.Gen Cert.Reads Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at point `t` leaves in the output's buffer what the model stores for the blocks of the two inputs. -/
theorem leaves_block (t : Fin cfg0.N) (x0 : Vec F S8192x3 .f32) (x1 : Vec F S8x256 .f32) :
    LeavesK (st0_0 t) (st0_1 t) (st0_2 t) x0 x1 (bodyAt0 t) (Model.stored x0 x1) := by
  have h : LeavesK (st0_0 t) (st0_1 t) (st0_2 t) x0 x1 (bodyAt0 t) (View.canon [⟨whole, Model.stored x0 x1⟩]) :=
    leaves_body (grid0.coords t) (st0_0 t) _ (st0_1 t) _ (st0_2 t) _ x0 x1
  rw [View.canon_unit_zero (by funext k; fin_cases k <;> rfl) inb_S16x256_S16x256_0_0] at h
  exact h

/-- The point's body, from the buffers the pipeline hands it to those it hands back. -/
theorem point (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d)))
      ⊢ wp frame (wpE (defs₀ (F := F)) Variants.none c none) Set.univ (bodyAt0 t) (fun _ =>
        iprop((dats m 0 c).Φ t.succ ∗ (dats m 0 c).owesAt () t.succ
          ∗ owns (c : Thread nD τ) (st0_0 t) fullShare ((dats m 0 c).after 0 t)
          ∗ owns (c : Thread nD τ) (st0_1 t) fullShare ((dats m 0 c).after 1 t)
          ∗ owns (c : Thread nD τ) (st0_2 t) fullShare ((dats m 0 c).after 2 t))) := by
  simp only [before0_0_of m (dats m 0 c) (dats_A m c 0) (dats_after_0 m c), before0_1_of m (dats m 0 c) (dats_A m c 1) (dats_after_1 m c)]
  rw [show (dats m 0 c).Φ t.succ = (dats m 0 c).Φ t.castSucc from rfl,
    show (dats m 0 c).owesAt () t.succ = (dats m 0 c).owesAt () t.castSucc from rfl, dats_after_0, dats_after_1, dats_after_2]
  iintro ⟨HΦ, Ho, ⟨%d0, H0⟩, ⟨%d1, H1⟩, ⟨%d2, H2⟩⟩
  iapply (leaves_block t (iblk m c 0 t) (iblk m c 1 t) c Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by
    unfold defs₀; rw [Defs.onTc_tc]]
  exact triple_restated (point m c t) rfl .rfl fun _ => .rfl

set_option backward.isDefEq.respectTransparency.types false in
set_option maxHeartbeats 800000 in
/-- Every execution ends, with the arrays as the proof data say and every semaphore at zero. -/
theorem run_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := dats_A m) (hΦ := fun _ _ => rfl)

/-- The arrays after the run, as the proof data say. -/
theorem run : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

/-- The arguments end as they began and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (dats_A m) (run m ρ)) ((θ_run defs _ _).mono (fun _ h => h.2) (run_quiescent m ρ))

end Cert.KernelIdeal.Hand
-- ==== Proof.Tournament.lean ====
/- One position of the tournaments, over the ideal numbers: which slices the five tournaments take. -/
module

public import proofs.«01_k».proof.Proof.Model
public import Idealize.ShloMosaic.Lib.ValueIdx

@[expose] public section

noncomputable section

namespace Cert.KernelIdeal.Tournament

open Cert.KernelIdeal Cert.KernelIdeal.Gen Cert.KernelIdeal.Model Idealize.ShloMosaic

theorem ofBits_inf : (inf : Ideal .f32) = (⊤ : EReal) := by
  show Ideal.ofBits .f32 0x7F800000#32 = ⊤
  simp [Ideal.ofBits, Ideal.ieee]

theorem ofBool_eq_one {p : Prop} [Decidable p] : (BitVec.ofBool (decide p) = 1#1) ↔ p := by
  by_cases h : p <;> simp [h]

theorem ofBool_beq {a b : BitVec 32} : (BitVec.ofBool (a == b) = 1#1) ↔ a = b := by
  by_cases h : a = b
  · simp [h]
  · rw [beq_eq_false_iff_ne.2 h]; simp [h]

/-- An entry of a level is a slice of its range holding the least value there. -/
theorem level_spec (T : ℕ → FVec Ideal S128x256 .f32) (j : S128x256.Idx) (l a : ℕ) :
    ∃ w, 2 ^ l * a ≤ w ∧ w < 2 ^ l * (a + 1) ∧ (level T l a).1 j = T w j ∧ (level T l a).2 j = BitVec.ofNat 32 w
      ∧ ∀ v, 2 ^ l * a ≤ v → v < 2 ^ l * (a + 1) → (T w j : EReal) ≤ T v j := by
  induction l generalizing a with
  | zero =>
    refine ⟨a, by omega, by omega, rfl, rfl, fun v h h' => ?_⟩
    obtain rfl : v = a := by omega
    exact le_rfl
  | succ l ih =>
    obtain ⟨w, hw, hw', hv, hi, hle⟩ := ih (2 * a)
    obtain ⟨u, hu, hu', hv2, hi2, hle2⟩ := ih (2 * a + 1)
    have e1 : 2 ^ (l + 1) * a = 2 ^ l * (2 * a) := by ring
    have e2 : 2 ^ (l + 1) * (a + 1) = 2 ^ l * (2 * a + 1 + 1) := by ring
    rw [e1, e2]
    have s1 : 2 ^ l * (2 * a) ≤ 2 ^ l * (2 * a + 1) := Nat.mul_le_mul_left _ (by omega)
    have s2 : 2 ^ l * (2 * a + 1) ≤ 2 ^ l * (2 * a + 1 + 1) := Nat.mul_le_mul_left _ (by omega)
    have f1 : (level T (l + 1) a).1 j = if BitVec.ofBool (decide (((level T l (2 * a + 1)).1 j : EReal) < (level T l (2 * a)).1 j)) = 1#1
        then (level T l (2 * a + 1)).1 j else (level T l (2 * a)).1 j := rfl
    have f2 : (level T (l + 1) a).2 j = if BitVec.ofBool (decide (((level T l (2 * a + 1)).1 j : EReal) < (level T l (2 * a)).1 j)) = 1#1
        then (level T l (2 * a + 1)).2 j else (level T l (2 * a)).2 j := rfl
    by_cases h : ((level T l (2 * a + 1)).1 j : EReal) < (level T l (2 * a)).1 j
    · rw [f1, f2, if_pos (by simp [h]), if_pos (by simp [h])]
      refine ⟨u, s1.trans hu, hu', hv2, hi2, fun v hl hr => ?_⟩
      rcases lt_or_ge v (2 ^ l * (2 * a + 1)) with hm | hm
      · rw [hv, hv2] at h; exact h.le.trans (hle v hl hm)
      · exact hle2 v hm hr
    · rw [f1, f2, if_neg (fun e => h (ofBool_eq_one.1 e)), if_neg (fun e => h (ofBool_eq_one.1 e))]
      refine ⟨w, hw, hw'.trans_le s2, hv, hi, fun v hl hr => ?_⟩
      rcases lt_or_ge v (2 ^ l * (2 * a + 1)) with hm | hm
      · exact hle v hl hm
      · rw [hv, hv2] at h; exact (not_lt.1 h).trans (hle2 v hm hr)

variable (x0 : Vec Ideal S8192x3 .f32) (x1 : Vec Ideal S8x256 .f32) (j : S128x256.Idx)

/-- The slice tournament `k` takes at position `j`. -/
def taken (k : ℕ) : ℕ := (level_spec (slices x0 x1 k) j 6 0).choose

theorem taken_lt (k : ℕ) : taken x0 x1 j k < 64 := (level_spec (slices x0 x1 k) j 6 0).choose_spec.2.1

theorem val_eq (k : ℕ) : val x0 x1 k j = slices x0 x1 k (taken x0 x1 j k) j := (level_spec (slices x0 x1 k) j 6 0).choose_spec.2.2.1

theorem win_eq (k : ℕ) : win x0 x1 k j = BitVec.ofNat 32 (taken x0 x1 j k) := (level_spec (slices x0 x1 k) j 6 0).choose_spec.2.2.2.1

theorem val_le (k v : ℕ) (hv : v < 64) : (val x0 x1 k j : EReal) ≤ slices x0 x1 k v j := by
  rw [val_eq]
  exact (level_spec (slices x0 x1 k) j 6 0).choose_spec.2.2.2.2 v (by omega) (by omega)

/-- What the slices hold ahead of tournament `k`: the distances, without those taken. -/
theorem slices_apply (k w : ℕ) (hw : w < 64) :
    (slices x0 x1 k w j : EReal) = if ∃ i < k, w = taken x0 x1 j i then ⊤ else dist x0 x1 w j := by
  induction k with
  | zero => simp [slices]
  | succ k ih =>
    have e : (slices x0 x1 (k + 1) w j : EReal) = if BitVec.ofBool (win x0 x1 k j == BitVec.ofNat 32 w) = 1#1 then (inf : Ideal .f32)
      else slices x0 x1 k w j := rfl
    have ht := taken_lt x0 x1 j k
    have hiff : (BitVec.ofBool (win x0 x1 k j == BitVec.ofNat 32 w) = 1#1) ↔ w = taken x0 x1 j k := by
      rw [win_eq]
      constructor
      · intro h
        have h' : BitVec.ofNat 32 (taken x0 x1 j k) = BitVec.ofNat 32 w := by
          by_contra hn
          rw [beq_eq_false_iff_ne.2 hn] at h
          exact absurd h (by decide)
        have := congrArg BitVec.toNat h'
        simp only [BitVec.toNat_ofNat] at this
        omega
      · rintro rfl
        simp
    rw [e, ofBits_inf]
    simp only [hiff]
    by_cases h : w = taken x0 x1 j k
    · rw [if_pos h, if_pos ⟨k, Nat.lt_succ_self k, h⟩]
    · rw [if_neg h, ih]
      refine if_congr ⟨?_, ?_⟩ rfl rfl
      · rintro ⟨i, hi, h'⟩; exact ⟨i, by omega, h'⟩
      · rintro ⟨i, hi, h'⟩
        rcases Nat.lt_succ_iff_lt_or_eq.1 hi with hi | rfl
        · exact ⟨i, hi, h'⟩
        · exact absurd h' h

variable (hfin : ∀ w < 64, (dist x0 x1 w j : EReal) < ⊤)
include hfin

/-- A slice is not taken twice. -/
theorem taken_new (k : ℕ) (hk : k < 64) : ¬ ∃ i < k, taken x0 x1 j k = taken x0 x1 j i := by
  intro h
  -- some slice is not taken yet
  obtain ⟨v, hv, hnv⟩ : ∃ v < 64, ¬ ∃ i < k, v = taken x0 x1 j i := by
    by_contra hn
    push Not at hn
    have : Finset.range 64 ⊆ (Finset.range k).image (taken x0 x1 j) := by
      intro v hv
      obtain ⟨i, hi, e⟩ := hn v (Finset.mem_range.1 hv)
      exact Finset.mem_image.2 ⟨i, Finset.mem_range.2 hi, e.symm⟩
    have := (Finset.card_le_card this).trans Finset.card_image_le
    simp only [Finset.card_range] at this
    omega
  have h1 := val_le x0 x1 j k v hv
  rw [val_eq, slices_apply x0 x1 j k _ (taken_lt x0 x1 j k), if_pos h, slices_apply x0 x1 j k v hv, if_neg hnv] at h1
  exact absurd (hfin v hv) (not_lt.2 h1)

/-- A tournament finds a distance. -/
theorem val_dist (k : ℕ) (hk : k < 64) : val x0 x1 k j = dist x0 x1 (taken x0 x1 j k) j := by
  rw [val_eq]
  refine (slices_apply x0 x1 j k _ (taken_lt x0 x1 j k)).trans ?_
  rw [if_neg (taken_new x0 x1 j hfin k hk)]

theorem taken_inj (k l : ℕ) (hk : k < 64) (hl : l < 64) (e : taken x0 x1 j k = taken x0 x1 j l) : k = l := by
  rcases Nat.lt_trichotomy k l with h | h | h
  · exact absurd ⟨k, h, e.symm⟩ (taken_new x0 x1 j hfin l hl)
  · exact h
  · exact absurd ⟨l, h, e⟩ (taken_new x0 x1 j hfin k hk)

omit hfin in
/-- A slice none of the tournaments up to `k` takes is no nearer than what `k` finds. -/
theorem val_le_dist (k w : ℕ) (hw : w < 64) (hn : ∀ i ≤ k, w ≠ taken x0 x1 j i) : (val x0 x1 k j : EReal) ≤ dist x0 x1 w j := by
  have h := val_le x0 x1 j k w hw
  rwa [slices_apply x0 x1 j k w hw, if_neg (fun ⟨i, hi, e⟩ => hn i hi.le e)] at h

end Cert.KernelIdeal.Tournament
end
-- ==== Proof.Rank.lean ====
/- Places in an order: numbers compared by a value and, on equal values, by themselves. A number's place in a finite set is
   how many of the set come before it; a choice of the first remaining one, round after round, gives the places in turn. -/
module

public import Mathlib.Data.EReal.Basic
public import Mathlib.Data.Finset.Card
public import Mathlib.Data.Finset.Fold
public import Mathlib.Data.Finset.Lattice.Fold
public import Mathlib.Data.Fintype.Card

@[expose] public section

noncomputable section

namespace Cert.Nearest

open Classical

variable (d : ℕ → EReal)

/-- `a` comes before `b`: its value is lower, or the values are equal and `a` is lower. -/
def Before (a b : ℕ) : Prop := d a < d b ∨ (d a = d b ∧ a < b)

variable {d}

theorem Before.irrefl (a : ℕ) : ¬ Before d a a := by
  rintro (h | ⟨_, h⟩) <;> exact lt_irrefl _ h

theorem Before.trans {a b c : ℕ} (h : Before d a b) (h' : Before d b c) : Before d a c := by
  rcases h with h | ⟨e, h⟩ <;> rcases h' with h' | ⟨e', h'⟩
  · exact .inl (h.trans h')
  · exact .inl (e' ▸ h)
  · exact .inl (e ▸ h')
  · exact .inr ⟨e.trans e', h.trans h'⟩

theorem Before.total {a b : ℕ} (h : a ≠ b) : Before d a b ∨ Before d b a := by
  rcases lt_trichotomy (d a) (d b) with h1 | h1 | h1
  · exact .inl (.inl h1)
  · rcases Nat.lt_or_gt_of_ne h with h2 | h2
    · exact .inl (.inr ⟨h1, h2⟩)
    · exact .inr (.inr ⟨h1.symm, h2⟩)
  · exact .inr (.inl h1)

theorem Before.le {a b : ℕ} (h : Before d a b) : d a ≤ d b := by
  rcases h with h | ⟨h, _⟩
  · exact h.le
  · exact h.le

variable (d)

/-- `r` is the member of `S` that exactly `k` of `S` come before. -/
def At (S : Finset ℕ) (k r : ℕ) : Prop := r ∈ S ∧ (S.filter fun a => Before d a r).card = k

variable {d}

theorem At.lt_of_before {S : Finset ℕ} {k k' r r' : ℕ} (h : At d S k r) (h' : At d S k' r') (hb : Before d r r') : k < k' := by
  rw [← h.2, ← h'.2]
  refine Finset.card_lt_card ⟨fun a ha => ?_, fun hs => ?_⟩
  · rw [Finset.mem_filter] at ha ⊢
    exact ⟨ha.1, ha.2.trans hb⟩
  · exact Before.irrefl r (Finset.mem_filter.1 (hs (Finset.mem_filter.2 ⟨h.1, hb⟩))).2

/-- One member at each place. -/
theorem At.unique {S : Finset ℕ} {k r r' : ℕ} (h : At d S k r) (h' : At d S k r') : r = r' := by
  by_contra hne
  rcases Before.total (d := d) hne with hb | hb
  · exact lt_irrefl _ (h.lt_of_before h' hb)
  · exact lt_irrefl _ (h'.lt_of_before h hb)

/-- Later places have no lower values. -/
theorem At.le {S : Finset ℕ} {k k' r r' : ℕ} (h : At d S k r) (h' : At d S k' r') (hk : k ≤ k') : d r ≤ d r' := by
  by_cases e : r = r'
  · rw [e]
  · rcases Before.total (d := d) e with hb | hb
    · exact hb.le
    · exact absurd (h'.lt_of_before h hb) (not_lt.2 hk)

/-- Choosing, round after round, a first one of those not yet chosen gives the places in turn. -/
theorem at_of_rounds (S : Finset ℕ) (K : ℕ) (r : ℕ → ℕ) (hS : ∀ k < K, r k ∈ S) (hne : ∀ k < K, ∀ j < k, r k ≠ r j)
    (hmin : ∀ k < K, ∀ a ∈ S, (∀ j < k, a ≠ r j) → a = r k ∨ Before d (r k) a) : ∀ k < K, At d S k (r k) := by
  intro k hk
  refine ⟨hS k hk, ?_⟩
  have e : (S.filter fun a => Before d a (r k)) = (Finset.range k).image r := by
    ext a
    rw [Finset.mem_filter, Finset.mem_image]
    constructor
    · rintro ⟨ha, hb⟩
      by_contra hn
      rcases hmin k hk a ha (fun j hj e => hn ⟨j, Finset.mem_range.2 hj, e.symm⟩) with e | h
      · rw [e] at hb; exact Before.irrefl _ hb
      · exact Before.irrefl _ (h.trans hb)
    · rintro ⟨j, hj, rfl⟩
      have hj := Finset.mem_range.1 hj
      refine ⟨hS j (hj.trans hk), ?_⟩
      rcases hmin j (hj.trans hk) (r k) (hS k hk) (fun i hi => hne k hk i (hi.trans hj)) with e | h
      · exact absurd e (hne k hk j hj)
      · exact h
  rw [e, Finset.card_image_of_injOn, Finset.card_range]
  intro i hi j hj hij
  have hi := Finset.mem_range.1 (Finset.mem_coe.1 hi)
  have hj := Finset.mem_range.1 (Finset.mem_coe.1 hj)
  by_contra hne'
  rcases Nat.lt_or_gt_of_ne hne' with h | h
  · exact hne j (hj.trans hk) i h hij.symm
  · exact hne i (hi.trans hk) j h hij

/-- A place in a part is the place in the whole, if everything outside the part has a value above `m` and the member's is at most `m`. -/
theorem At.of_subset {S N : Finset ℕ} {k r : ℕ} (h : At d S k r) (hSN : S ⊆ N) (m : EReal) (hm : d r ≤ m)
    (hout : ∀ a ∈ N, a ∉ S → m < d a) : At d N k r := by
  refine ⟨hSN h.1, ?_⟩
  rw [← h.2]
  congr 1
  ext a
  rw [Finset.mem_filter, Finset.mem_filter]
  refine ⟨fun ⟨ha, hb⟩ => ⟨?_, hb⟩, fun ⟨ha, hb⟩ => ⟨hSN ha, hb⟩⟩
  by_contra hn
  exact absurd (hb.le.trans hm) (not_le.2 (hout a ha hn))

end Cert.Nearest
end
-- ==== Proof.Extract.lean ====
/- One column: taking out, round after round, the least value at its lowest index gives the indices' places in turn. -/
module

public import proofs.«01_k».proof.Proof.Rank
public import Idealize.ShloMosaic.PureOps.Reduce

@[expose] public section

noncomputable section

namespace Cert.Nearest

open Classical Idealize.ShloMosaic

theorem minsi_toInt (x y : BitVec 32) : (IntOp.minsi x y).toInt = min x.toInt y.toInt := by
  unfold IntOp.minsi
  by_cases h : x.slt y
  · rw [if_pos h, min_eq_left]
    rw [BitVec.slt_iff_toInt_lt] at h; exact h.le
  · rw [if_neg h, min_eq_right]
    rw [BitVec.slt_iff_toInt_lt] at h; exact not_lt.1 h

/-- A fold of the signed minimum, read as a number. -/
theorem fold_minsi_toInt {ι : Type} (s : Finset ι) (b : BitVec 32) (f : ι → BitVec 32) :
    (s.fold IntOp.minsi b f).toInt = s.fold min b.toInt fun p => (f p).toInt := by
  induction s using Finset.induction with
  | empty => rfl
  | insert a s ha ih => rw [Finset.fold_insert ha, Finset.fold_insert ha, minsi_toInt, ih]

/-- A fold of the signed minimum is any entry that is at most the start and every entry. -/
theorem fold_minsi_eq {ι : Type} (s : Finset ι) (b : BitVec 32) (f : ι → BitVec 32) (p : ι) (hp : p ∈ s) (hb : (f p).toInt ≤ b.toInt)
    (hle : ∀ q ∈ s, (f p).toInt ≤ (f q).toInt) : s.fold IntOp.minsi b f = f p := by
  apply BitVec.eq_of_toInt_eq
  rw [fold_minsi_toInt]
  apply le_antisymm
  · exact (Finset.fold_min_le _).2 (.inr ⟨p, hp, le_rfl⟩)
  · exact (Finset.le_fold_min _).2 ⟨hb, hle⟩

variable {n : ℕ}

/-- The least value. -/
def least (V : Fin n → EReal) : EReal := Finset.univ.fold min ⊤ V

theorem least_le (V : Fin n → EReal) (p : Fin n) : least V ≤ V p := (Finset.fold_min_le _).2 (.inr ⟨p, Finset.mem_univ _, le_rfl⟩)

theorem exists_least (V : Fin n → EReal) (h : ∃ p, V p < ⊤) : ∃ p, V p = least V ∧ V p < ⊤ := by
  obtain ⟨p0, h0⟩ := h
  obtain ⟨p, -, hp⟩ := Finset.exists_min_image Finset.univ V ⟨p0, Finset.mem_univ _⟩
  refine ⟨p, le_antisymm ?_ (least_le V p), (hp p0 (Finset.mem_univ _)).trans_lt h0⟩
  exact (Finset.le_fold_min _).2 ⟨le_top, hp⟩

/-- The lowest index at which the value is least. -/
def leastIdx (V : Fin n → EReal) (I : Fin n → BitVec 32) : BitVec 32 :=
  Finset.univ.fold IntOp.minsi 2147483647#32 fun p => if V p = least V then I p else 1073741824#32

theorem toInt_of_small {x : BitVec 32} (h : x.toNat < 2 ^ 30) : x.toInt = x.toNat := by
  rw [BitVec.toInt_eq_toNat_of_lt (by omega)]

theorem leastIdx_spec (V : Fin n → EReal) (I : Fin n → BitVec 32) (hI : ∀ p, (I p).toNat < 2 ^ 30) (h : ∃ p, V p < ⊤) :
    ∃ p, leastIdx V I = I p ∧ V p = least V ∧ V p < ⊤ ∧ ∀ q, V q = least V → (I p).toNat ≤ (I q).toNat := by
  obtain ⟨p0, h0, h0t⟩ := exists_least V h
  obtain ⟨p, hp, hmin⟩ := Finset.exists_min_image (Finset.univ.filter fun p => V p = least V) (fun p => (I p).toNat)
    ⟨p0, Finset.mem_filter.2 ⟨Finset.mem_univ _, h0⟩⟩
  have hpV := (Finset.mem_filter.1 hp).2
  have hmin' : ∀ q, V q = least V → (I p).toNat ≤ (I q).toNat := fun q hq => hmin q (Finset.mem_filter.2 ⟨Finset.mem_univ _, hq⟩)
  refine ⟨p, ?_, hpV, by rw [hpV, ← h0]; exact h0t, hmin'⟩
  have e : (fun p => if V p = least V then I p else 1073741824#32) p = I p := if_pos hpV
  unfold leastIdx
  rw [fold_minsi_eq _ _ _ p (Finset.mem_univ _)]
  · exact e
  · rw [if_pos hpV, toInt_of_small (hI p)]
    have := hI p
    have h2 : (2147483647#32 : BitVec 32).toInt = 2147483647 := by decide
    rw [h2]; omega
  · intro q _
    rw [if_pos hpV, toInt_of_small (hI p)]
    have h3 : (1073741824#32 : BitVec 32).toInt = 1073741824 := by decide
    have := hI p
    by_cases hq : V q = least V
    · show _ ≤ (if V q = least V then I q else 1073741824#32).toInt
      rw [if_pos hq, toInt_of_small (hI q)]
      have := hmin' q hq
      omega
    · show _ ≤ (if V q = least V then I q else 1073741824#32).toInt
      rw [if_neg hq, h3]
      omega

/-- The values after `k` rounds. -/
def leftC (V : Fin n → EReal) (I : Fin n → BitVec 32) : ℕ → Fin n → EReal
  | 0 => V
  | k + 1 => fun p => if I p = leastIdx (leftC V I k) I then ⊤ else leftC V I k p

/-- The index chosen in round `k`. -/
def chosen (V : Fin n → EReal) (I : Fin n → BitVec 32) (k : ℕ) : BitVec 32 := leastIdx (leftC V I k) I

theorem leftC_eq (V : Fin n → EReal) (I : Fin n → BitVec 32) (k : ℕ) (p : Fin n) :
    leftC V I k p = if ∃ j < k, I p = chosen V I j then ⊤ else V p := by
  induction k with
  | zero => simp [leftC]
  | succ k ih =>
    show (if I p = chosen V I k then ⊤ else leftC V I k p) = _
    by_cases h : I p = chosen V I k
    · rw [if_pos h, if_pos ⟨k, Nat.lt_succ_self k, h⟩]
    · rw [if_neg h, ih]
      congr 1
      apply propext
      constructor
      · rintro ⟨j, hj, e⟩; exact ⟨j, hj.trans (Nat.lt_succ_self k), e⟩
      · rintro ⟨j, hj, e⟩
        rcases Nat.lt_succ_iff_lt_or_eq.1 hj with hj | rfl
        · exact ⟨j, hj, e⟩
        · exact absurd e h

/-- With different indices, and every value finite, a round before the last finds a value left. -/
theorem left_finite (V : Fin n → EReal) (I : Fin n → BitVec 32) (hinj : Function.Injective I) (hV : ∀ p, V p < ⊤) {k : ℕ} (hk : k < n) :
    ∃ p, leftC V I k p < ⊤ := by
  by_contra hn
  have hall : ∀ p, ∃ j < k, I p = chosen V I j := by
    intro p
    by_contra h
    apply hn
    refine ⟨p, ?_⟩
    rw [leftC_eq, if_neg h]
    exact hV p
  choose f hf he using hall
  have hfi : Function.Injective fun p => (⟨f p, hf p⟩ : Fin k) := by
    intro p q e
    have e' : f p = f q := congrArg Fin.val e
    exact hinj ((he p).trans (e' ▸ (he q).symm))
  have := Fintype.card_le_of_injective _ hfi
  rw [Fintype.card_fin, Fintype.card_fin] at this
  omega

/-- The rounds choose the places in turn, among the indices; the least value left in a round is the chosen one's. -/
theorem chosen_at (d : ℕ → EReal) (V : Fin n → EReal) (I : Fin n → BitVec 32) (hI : ∀ p, (I p).toNat < 2 ^ 30)
    (hinj : Function.Injective I) (hd : ∀ p, V p = d (I p).toNat) (hV : ∀ p, V p < ⊤) (k : ℕ) (hk : k < n) :
    At d (Finset.univ.image fun p => (I p).toNat) k (chosen V I k).toNat ∧ least (leftC V I k) = d (chosen V I k).toNat := by
  have key : ∀ k < n, ∃ p, chosen V I k = I p ∧ (¬ ∃ j < k, I p = chosen V I j) ∧ V p = least (leftC V I k)
      ∧ ∀ q, (¬ ∃ j < k, I q = chosen V I j) → q = p ∨ Before d (I p).toNat (I q).toNat := by
    intro k hk
    obtain ⟨p, hp, hpl, hpt, hmin⟩ := leastIdx_spec (leftC V I k) I hI (left_finite V I hinj hV hk)
    have hnp : ¬ ∃ j < k, I p = chosen V I j := by
      intro h
      rw [leftC_eq, if_pos h] at hpt
      exact lt_irrefl _ hpt
    have hpe : leftC V I k p = V p := by rw [leftC_eq, if_neg hnp]
    refine ⟨p, hp, hnp, hpe ▸ hpl, fun q hq => ?_⟩
    have hqe : leftC V I k q = V q := by rw [leftC_eq, if_neg hq]
    by_cases hqp : q = p
    · exact .inl hqp
    refine .inr ?_
    have hle : V p ≤ V q := by rw [← hpe, hpl, ← hqe]; exact least_le _ q
    rcases hle.lt_or_eq with h | h
    · left; rw [← hd, ← hd]; exact h
    · right
      refine ⟨by rw [← hd, ← hd]; exact h, ?_⟩
      have := hmin q (by rw [hqe, ← h, ← hpe, hpl])
      refine lt_of_le_of_ne this fun e => hqp (hinj (BitVec.eq_of_toNat_eq e.symm))
  refine ⟨at_of_rounds (Finset.univ.image fun p => (I p).toNat) n (fun k => (chosen V I k).toNat) ?_ ?_ ?_ k hk, ?_⟩
  · intro k hk
    obtain ⟨p, hp, -⟩ := key k hk
    exact Finset.mem_image.2 ⟨p, Finset.mem_univ _, by rw [hp]⟩
  · intro k hk j hj e
    obtain ⟨p, hp, hnp, -⟩ := key k hk
    exact hnp ⟨j, hj, by rw [← hp]; exact BitVec.eq_of_toNat_eq e⟩
  · intro k hk a ha hne
    obtain ⟨q, -, rfl⟩ := Finset.mem_image.1 ha
    obtain ⟨p, hp, hnp, -, hmin⟩ := key k hk
    rcases hmin q (fun ⟨j, hj, e⟩ => hne j hj (by rw [e])) with rfl | h
    · left; rw [hp]
    · right; rw [hp]; exact h
  · obtain ⟨p, hp, -, hl, -⟩ := key k hk
    rw [hp, ← hd, hl]

end Cert.Nearest
end
-- ==== Proof.Columns.lean ====
/- The `KernelIdeal` body's selections read one column at a time, over the ideal numbers. -/
module

public import proofs.«01_k».proof.Proof.Tournament
public import proofs.«01_k».proof.Proof.Extract
public import Idealize.ShloMosaic.Lib.ValueIdx
public import Idealize.ShloMosaic.Lib.ValueLayout
public import Idealize.ShloMosaic.Lib.ValueLayoutCasts
public import Idealize.ShloMosaic.Lib.Pipeline.Value
public import Idealize.ShloMosaic.PureOps.Ideal.Laws

@[expose] public section

noncomputable section

namespace Cert.KernelIdeal.Columns

open Cert.KernelIdeal Cert.KernelIdeal.Gen Cert.KernelIdeal.Model Cert.KernelIdeal.Tournament Cert.Nearest Idealize.ShloMosaic Idealize.ShloMosaic.ValueIdx

variable {n : ℕ} (hb : S1x256.Broadcasts (Rows n)) (hr : (Rows n).Reduces [0] S256)

/-- A reduction down the rows meets column `q` at the rows of `q`. -/
theorem lift_col (q : Fin 256) (p : Fin n) : hr.lift (ix1 q) p = (ix2 p q : (Rows n).Idx) :=
  Shape.idx_ext₂ (n := ![n, 256]) rfl rfl

/-- The least value of a column. -/
theorem minRow_apply (V : FVec Ideal (Rows n) .f32) (q : Fin 256) : minRow hr V (ix2 (0 : Fin 1) q) = least fun p => V (ix2 p q) := by
  unfold minRow
  refine (shapeCast_a_1a_apply _ _ 0 q).trans ?_
  haveI : Std.Commutative (FloatOps.minimumf (F := Ideal) (φ := .f32)) := ⟨fun a b => min_comm (α := EReal) a b⟩
  haveI : Std.Associative (FloatOps.minimumf (F := Ideal) (φ := .f32)) := ⟨fun a b c => min_assoc (α := EReal) a b c⟩
  refine (multiReduction_minimumf_eq_fold V 0x7F800000#32 hr (.inl rfl) rfl (ix1 q)).trans ?_
  refine (hr.fold_filter_drop_single _ _ V (ix1 q)).trans ?_
  show Finset.fold min (inf : Ideal .f32) (V ∘ hr.lift (ix1 q)) Finset.univ = _
  rw [ofBits_inf]
  unfold least
  congr 1
  funext p
  exact congrArg V (lift_col hr q p)

/-- The lowest index of the least value of a column. -/
theorem idxRow_apply (V : FVec Ideal (Rows n) .f32) (I : IVec (Rows n) 32) (q : Fin 256) :
    idxRow hb hr V I (ix2 (0 : Fin 1) q) = leastIdx (fun p => V (ix2 p q)) fun p => I (ix2 p q) := by
  unfold idxRow
  refine (shapeCast_a_1a_apply _ _ 0 q).trans ?_
  refine (multiReductionI_eq_fold .minsi _ 2147483647#32 hr rfl (ix1 q)).trans ?_
  refine (hr.fold_filter_drop_single _ _ _ (ix1 q)).trans ?_
  unfold leastIdx
  show Finset.fold IntOp.minsi _ _ _ = _
  congr 1
  funext p
  refine (congrArg _ (lift_col hr q p)).trans ?_
  show (if BitVec.ofBool (decide (V (ix2 p q) = broadcastTo (Rows n) (minRow hr V) hb (ix2 p q))) = 1#1 then I (ix2 p q) else 1073741824#32) = _
  rw [show broadcastTo (Rows n) (minRow hr V) hb (ix2 p q) = least fun p => V (ix2 p q) from
    (broadcastTo_1b_ab_apply _ _ p q).trans (minRow_apply hr V q)]
  simp only [ofBool_eq_one]

/-- The values left in a column. -/
theorem left_apply (V : FVec Ideal (Rows n) .f32) (I : IVec (Rows n) 32) (q : Fin 256) (k : ℕ) (p : Fin n) :
    left hb hr V I k (ix2 p q) = leftC (fun p => V (ix2 p q)) (fun p => I (ix2 p q)) k p := by
  induction k generalizing p with
  | zero => rfl
  | succ k ih =>
    show (if BitVec.ofBool (I (ix2 p q) == broadcastTo (Rows n) (idxRow hb hr (left hb hr V I k) I) hb (ix2 p q)) = 1#1 then (inf : Ideal .f32)
      else left hb hr V I k (ix2 p q)) = (if I (ix2 p q) = leastIdx _ _ then ⊤ else _)
    rw [show broadcastTo (Rows n) (idxRow hb hr (left hb hr V I k) I) hb (ix2 p q) = _ from
      (broadcastTo_1b_ab_apply _ _ p q).trans (idxRow_apply hb hr _ I q), ih, ofBits_inf]
    simp only [ih]
    by_cases h : I (ix2 p q) = leastIdx (leftC (fun p => V (ix2 p q)) (fun p => I (ix2 p q)) k) fun p => I (ix2 p q)
    · rw [if_pos h, if_pos (by rw [h]; simp)]
    · rw [if_neg h, if_neg (fun e => h (ofBool_beq.1 e))]

/-- The index chosen in a column. -/
theorem row_apply (V : FVec Ideal (Rows n) .f32) (I : IVec (Rows n) 32) (q : Fin 256) (k : ℕ) :
    row hb hr V I k (ix2 (0 : Fin 1) q) = chosen (fun p => V (ix2 p q)) (fun p => I (ix2 p q)) k := by
  unfold row chosen
  rw [idxRow_apply]
  simp only [left_apply]

/-- The least value left in a column. -/
theorem minLeft_apply (V : FVec Ideal (Rows n) .f32) (I : IVec (Rows n) 32) (q : Fin 256) (k : ℕ) :
    minRow hr (left hb hr V I k) (ix2 (0 : Fin 1) q) = least (leftC (fun p => V (ix2 p q)) (fun p => I (ix2 p q)) k) := by
  rw [minRow_apply]
  simp only [left_apply]

end Cert.KernelIdeal.Columns
end
-- ==== Proof.Points.lean ====
/- The distances and the fallback's selection read at a position, over the ideal numbers. -/
module

public import proofs.«01_k».proof.Proof.Columns

@[expose] public section

noncomputable section

namespace Cert.KernelIdeal.Points

open Cert.KernelIdeal Cert.KernelIdeal.Gen Cert.KernelIdeal.Model Cert.KernelIdeal.Tournament Cert.KernelIdeal.Columns Cert.Nearest
  Idealize.ShloMosaic Idealize.ShloMosaic.ValueIdx

variable (x0 : Vec Ideal S8192x3 .f32) (x1 : Vec Ideal S8x256 .f32)

/-- The distance in coordinate `c` from row `r` to column `q`. -/
def gap (q : Fin 256) (r : Fin 8192) (c : Fin 3) : EReal := x0 (ix2 r c) - x1 (ix2 (⟨c.val, by omega⟩ : Fin 8) q)

/-- The squared distance from row `r` to column `q`. -/
def dRow (q : Fin 256) (r : Fin 8192) : EReal :=
  gap x0 x1 q r 0 * gap x0 x1 q r 0 + gap x0 x1 q r 1 * gap x0 x1 q r 1 + gap x0 x1 q r 2 * gap x0 x1 q r 2

/-- The squared distance, of a row given by its number. -/
def dNum (q : Fin 256) (r : ℕ) : EReal := dRow x0 x1 q ⟨r % 8192, Nat.mod_lt _ (by decide)⟩

theorem colRow_apply (c : Fin 3) (q : Fin 256) : colRow x1 c (ix2 (0 : Fin 1) q) = x1 (ix2 (⟨c.val, by omega⟩ : Fin 8) q) := by
  unfold colRow
  refine (shapeCast_apply _ _ _ (ix2 (0 : Fin 1) q) rfl).trans ?_
  refine congrArg x1 (Shape.idx_ext₂ (n := ![8, 256]) ?_ ?_)
  · show c.val + 0 = c.val; rfl
  · show 0 + 1 * q.val = q.val; omega

theorem pts_apply (w : ℕ) (hw : w < 64) (c : Fin 3) (p : Fin 128) :
    pts x0 w c (ix2 p (0 : Fin 1)) = x0 (ix2 (⟨128 * w + p.val, by omega⟩ : Fin 8192) c) := by
  unfold pts
  refine congrArg x0 (Shape.idx_ext₂ (n := ![8192, 3]) ?_ ?_)
  · show 128 * (w % 64) + 1 * p.val = 128 * w + p.val; rw [Nat.mod_eq_of_lt hw, Nat.one_mul]
  · show c.val + 0 = c.val; rfl

/-- A distance slice at a position. -/
theorem dist_apply (w : ℕ) (hw : w < 64) (p : Fin 128) (q : Fin 256) : dist x0 x1 w (ix2 p q) = dNum x0 x1 q (128 * w + p.val) := by
  have hd : ∀ c : Fin 3, diff x0 x1 w c (ix2 p q) = gap x0 x1 q ⟨(128 * w + p.val) % 8192, Nat.mod_lt _ (by decide)⟩ c := by
    intro c
    have h1 : broadcastTo S128x256 (pts x0 w c) broadcasts_S128x1_S128x256 (ix2 p q) = pts x0 w c (ix2 p (0 : Fin 1)) :=
      broadcastTo_apply _ _ _ _ (fun ax => match ax with | ⟨0, _⟩ => rfl | ⟨1, _⟩ => rfl)
    have h2 : broadcastTo S128x256 (colRow x1 c) broadcasts_S1x256_S128x256 (ix2 p q) = colRow x1 c (ix2 (0 : Fin 1) q) :=
      broadcastTo_1b_ab_apply _ _ p q
    show (broadcastTo S128x256 (pts x0 w c) broadcasts_S128x1_S128x256 (ix2 p q) : EReal)
      - broadcastTo S128x256 (colRow x1 c) broadcasts_S1x256_S128x256 (ix2 p q) = _
    rw [h1, h2, colRow_apply, pts_apply x0 w hw]
    unfold gap
    congr 3
    exact Fin.ext (Nat.mod_eq_of_lt (by omega)).symm
  show (diff x0 x1 w 0 (ix2 p q) : EReal) * diff x0 x1 w 0 (ix2 p q) + diff x0 x1 w 1 (ix2 p q) * diff x0 x1 w 1 (ix2 p q)
    + diff x0 x1 w 2 (ix2 p q) * diff x0 x1 w 2 (ix2 p q) = _
  rw [hd, hd, hd]
  rfl

theorem all_apply (p : Fin 8192) (q : Fin 256) : all x0 x1 (ix2 p q) = dNum x0 x1 q p.val := by
  unfold all
  have hw : p.val / 128 < 64 := by omega
  refine (concatenate_apply_piece 0 ((List.range 64).map fun w => ⟨S128x256, dist x0 x1 w⟩) (concatenates_all x0 x1) (ix2 p q) (p.val / 128)
    (by rw [List.length_map, List.length_range]; exact hw) S128x256 (dist x0 x1 (p.val / 128)) (by simp) rfl
    (128 * (p.val / 128)) ?_ (ix2 (⟨p.val % 128, Nat.mod_lt _ (by decide)⟩ : Fin 128) q) ?_ ?_).trans ?_
  · rw [← List.map_take, List.map_map, List.map_map]
    have : ((List.range 64).take (p.val / 128)) = List.range (p.val / 128) := by
      rw [List.take_range]; congr 1; omega
    rw [this]
    generalize p.val / 128 = k
    induction k with
    | zero => rfl
    | succ k ih =>
      rw [List.range_succ, List.map_append, List.sum_append, ih]
      show 128 * k + 128 = 128 * (k + 1)
      omega
  · intro b hb
    match b with
    | ⟨0, _⟩ => exact absurd rfl hb
    | ⟨1, _⟩ => rfl
  · show 128 * (p.val / 128) + p.val % 128 = p.val
    omega
  · rw [dist_apply x0 x1 _ hw]
    show dNum x0 x1 q (128 * (p.val / 128) + p.val % 128) = _
    congr 1
    omega

variable (q : Fin 256) (hfin : ∀ r, dNum x0 x1 q r < ⊤)
include hfin

/-- The fallback's row `k` holds, in each column, the place `k` among all rows. -/
theorem allRow_at (k : ℕ) (hk : k < 16) :
    At (dNum x0 x1 q) (Finset.range 8192) k (allRow x0 x1 k (ix2 (0 : Fin 1) q)).toNat := by
  have h : allRow x0 x1 k (ix2 (0 : Fin 1) q)
      = chosen (fun p : Fin 8192 => all x0 x1 (ix2 p q)) (fun p : Fin 8192 => (BitVec.ofNat 32 p.val : BitVec 32)) k := by
    refine (row_apply (n := 8192) broadcasts_S1x256_S8192x256 reduces_S8192x256_S256 (all x0 x1) _ q k).trans ?_
    congr 1
    funext p
    exact iota_single_apply .tc S8192x256 32 0 iota_S8192x256_d0_w32 (ix2 p q)
  have hn : ∀ p : Fin 8192, (BitVec.ofNat 32 p.val : BitVec 32).toNat = p.val := fun p => by
    rw [BitVec.toNat_ofNat]; exact Nat.mod_eq_of_lt (by omega)
  have hc := (chosen_at (dNum x0 x1 q) (fun p : Fin 8192 => all x0 x1 (ix2 p q)) (fun p : Fin 8192 => (BitVec.ofNat 32 p.val : BitVec 32))
    (fun p => by rw [hn]; omega) (fun a b e => Fin.ext (by rw [← hn a, ← hn b]; exact congrArg BitVec.toNat e))
    (fun p => by rw [hn]; exact all_apply x0 x1 p q) (fun p => by rw [all_apply]; exact hfin _) k (by omega)).1
  rw [h]
  convert hc using 1
  ext a
  simp only [Finset.mem_range, Finset.mem_image, Finset.mem_univ, true_and, hn]
  exact ⟨fun h => ⟨⟨a, h⟩, rfl⟩, fun ⟨p, e⟩ => e ▸ p.isLt⟩

end Cert.KernelIdeal.Points
end
-- ==== Proof.Candidates.lean ====
/- The selection among the candidates, and what the body stores, over the ideal numbers. -/
module

public import proofs.«01_k».proof.Proof.Points
public import Idealize.ShloMosaic.Lib.IdealHost

@[expose] public section

noncomputable section

namespace Cert.KernelIdeal.Points

open Cert.KernelIdeal Cert.KernelIdeal.Gen Cert.KernelIdeal.Model Cert.KernelIdeal.Tournament Cert.KernelIdeal.Columns Cert.Nearest
  Idealize.ShloMosaic Idealize.ShloMosaic.ValueIdx

variable (x0 : Vec Ideal S8192x3 .f32) (x1 : Vec Ideal S8x256 .f32)

/-- Five slices concatenated, at a position. -/
theorem five_apply {α : Type} (f : ℕ → S128x256.Idx → α)
    (h : Shape.Concatenates ([(⟨S128x256, f 0⟩ : (s : Shape) × (s.Idx → α)), ⟨S128x256, f 1⟩, ⟨S128x256, f 2⟩, ⟨S128x256, f 3⟩,
      ⟨S128x256, f 4⟩].map (·.1)) S640x256 0) (p : Fin 640) (q : Fin 256) :
    concatenate S640x256 0 [⟨S128x256, f 0⟩, ⟨S128x256, f 1⟩, ⟨S128x256, f 2⟩, ⟨S128x256, f 3⟩, ⟨S128x256, f 4⟩] h (ix2 p q)
      = f (p.val / 128) (ix2 (⟨p.val % 128, Nat.mod_lt _ (by decide)⟩ : Fin 128) q) := by
  have hw : p.val / 128 < 5 := by omega
  refine concatenate_apply_piece 0 [⟨S128x256, f 0⟩, ⟨S128x256, f 1⟩, ⟨S128x256, f 2⟩, ⟨S128x256, f 3⟩, ⟨S128x256, f 4⟩] h (ix2 p q)
    (p.val / 128) hw S128x256 (f (p.val / 128)) ?_ rfl (128 * (p.val / 128)) ?_
    (ix2 (⟨p.val % 128, Nat.mod_lt _ (by decide)⟩ : Fin 128) q) ?_ ?_
  · generalize p.val / 128 = k at hw
    interval_cases k <;> rfl
  · generalize p.val / 128 = k at hw
    interval_cases k <;> rfl
  · intro b hb
    match b with
    | ⟨0, _⟩ => exact absurd rfl hb
    | ⟨1, _⟩ => rfl
  · show 128 * (p.val / 128) + p.val % 128 = p.val
    omega

/-- Position `p` of the candidates is `part p` of the chains, taken by tournament `p / 128`. -/
def part (p : Fin 640) : Fin 128 := ⟨p.val % 128, Nat.mod_lt _ (by decide)⟩

/-- The row candidate `p` of column `q` is at. -/
def cand (q : Fin 256) (p : Fin 640) : ℕ := 128 * taken x0 x1 (ix2 (part p) q) (p.val / 128) + (part p).val

theorem candI_apply (p : Fin 640) (q : Fin 256) : candI x0 x1 (ix2 p q) = BitVec.ofNat 32 (cand x0 x1 q p) := by
  refine (five_apply (gidx x0 x1) _ p q).trans ?_
  show IntOp.addi (IntOp.muli (win x0 x1 (p.val / 128) (ix2 (part p) q)) 128#32) (iota .tc S128x256 32 [0] iota_S128x256_d0_w32 (ix2 (part p) q)) = _
  rw [win_eq, iota_single_apply]
  show BitVec.ofNat 32 _ * 128#32 + BitVec.ofNat 32 (part p).val = _
  apply BitVec.eq_of_toNat_eq
  unfold cand
  simp only [BitVec.toNat_add, BitVec.toNat_mul, BitVec.toNat_ofNat]
  omega

theorem cand_lt (p : Fin 640) (q : Fin 256) : cand x0 x1 q p < 8192 := by
  have := taken_lt x0 x1 (ix2 (part p) q) (p.val / 128)
  have := (part p).isLt
  unfold cand; omega

theorem candI_toNat (p : Fin 640) (q : Fin 256) : (candI x0 x1 (ix2 p q)).toNat = cand x0 x1 q p := by
  rw [candI_apply, BitVec.toNat_ofNat]
  exact Nat.mod_eq_of_lt (by have := cand_lt x0 x1 p q; omega)

/-- An entry is at most the greatest of all. -/
theorem le_max_all (src : FVec Ideal S128x256 .f32) (p : Fin 128) (q : Fin 256) (j : S1.Idx) :
    (src (ix2 p q) : EReal) ≤ multiReduction .maximumf [1, 2] S1 (shapeCast S1x128x256 src shapeCasts_S128x256_S1x128x256) 0xFF800000#32
      reduces_S1x128x256_S1 (.inl rfl) rfl j := by
  haveI : Std.Commutative (FloatOps.maximumf (F := Ideal) (φ := .f32)) := ⟨fun a b => max_comm (α := EReal) a b⟩
  haveI : Std.Associative (FloatOps.maximumf (F := Ideal) (φ := .f32)) := ⟨fun a b c => max_assoc (α := EReal) a b c⟩
  refine le_trans ?_ (le_of_eq (multiReduction_maximumf_eq_fold _ _ _ _ _ _).symm)
  refine (Finset.le_fold_max (src (ix2 p q) : EReal)).2 (.inr ⟨(ix3 (0 : Fin 1) p q : S1x128x256.Idx), Finset.mem_filter.2 ⟨Finset.mem_univ _, ?_⟩, ?_⟩)
  · funext a
    match a with
    | ⟨0, _⟩ => exact Subsingleton.elim (α := Fin 1) _ _
  · exact le_of_eq (shapeCast_ab_1ab_apply src shapeCasts_S128x256_S1x128x256 (0 : Fin 1) p q).symm

/-- The one entry of `M` is above `z`. -/
theorem one_of_lt (M : FVec Ideal S1 .f32) (z : Ideal .f32) (h : ∀ j, (z : EReal) < M j) :
    Scalar.cmpf .ogt (extractAt ![0, 0, 0] (shapeCast S1x1x1 M shapeCasts_S1_S1x1x1) inpos_S1x1x1_p0_0_0) z = 1#1 :=
  ofBool_eq_one.2 (h _)

/-- Where some entry of `V` is at most its column's entry of `L`, the test for it says so. -/
theorem some_le (V : FVec Ideal S128x256 .f32) (L : FVec Ideal S1x256 .f32) (p : Fin 128) (q : Fin 256)
    (hle : (V (ix2 p q) : EReal) ≤ L (ix2 (0 : Fin 1) q)) :
    Scalar.cmpf .ogt (extractAt ![0, 0, 0] (shapeCast S1x1x1 (multiReduction .maximumf [1, 2] S1 (shapeCast S1x128x256
    (select (cmpf .ole V (broadcastTo S128x256 L broadcasts_S1x256_S128x256))
      (broadcast S128x256 (Scalar.ofBits (F := Ideal) .f32 0x3F800000#32)) (broadcast S128x256 (Scalar.ofBits (F := Ideal) .f32 0x00000000#32)))
    shapeCasts_S128x256_S1x128x256) 0xFF800000#32 reduces_S1x128x256_S1 (.inl rfl) rfl) shapeCasts_S1_S1x1x1) inpos_S1x1x1_p0_0_0)
    (Scalar.ofBits (F := Ideal) .f32 0x00000000#32) = 1#1 := by
  have hone : (Scalar.ofBits (F := Ideal) .f32 0x00000000#32 : EReal) < Scalar.ofBits (F := Ideal) .f32 0x3F800000#32 := by
    show Ideal.ofBits .f32 0x00000000#32 < Ideal.ofBits .f32 0x3F800000#32
    rw [Ideal.ofBits_one_f32, Ideal.ofBits_zero_f32]
    exact zero_lt_one
  have hlast : broadcastTo S128x256 L broadcasts_S1x256_S128x256 (ix2 p q) = L (ix2 (0 : Fin 1) q) := broadcastTo_1b_ab_apply _ _ p q
  have hsel : select (cmpf .ole V (broadcastTo S128x256 L broadcasts_S1x256_S128x256))
      (broadcast S128x256 (Scalar.ofBits (F := Ideal) .f32 0x3F800000#32)) (broadcast S128x256 (Scalar.ofBits (F := Ideal) .f32 0x00000000#32))
      (ix2 p q) = Scalar.ofBits (F := Ideal) .f32 0x3F800000#32 := by
    have hc : cmpf .ole V (broadcastTo S128x256 L broadcasts_S1x256_S128x256) (ix2 p q) = 1#1 := by
      refine ofBool_eq_one.2 ?_
      rw [hlast]
      exact hle
    exact if_pos hc
  exact one_of_lt _ _ fun j => hone.trans_le ((le_of_eq hsel.symm).trans (le_max_all _ p q j))

/-- Row shapes take one row each. -/
theorem sum_rows (l : List Shape) (h : ∀ s ∈ l, s = S1x256) :
    (l.map fun s => if h : s.rank = S16x256.rank then s.size ((0 : Fin S16x256.rank).cast h.symm) else 0).sum = l.length := by
  induction l with
  | nil => rfl
  | cons s l ih =>
    rw [List.map_cons, List.sum_cons, ih fun t ht => h t (List.mem_cons_of_mem _ ht), h s List.mem_cons_self, List.length_cons]
    exact Nat.add_comm 1 _

/-- The sixteen rows stacked, at a position. -/
theorem stack_apply (r : ℕ → IVec S1x256 32) (k : Fin 16) (q : Fin 256) : stack r (ix2 k q) = r k.val (ix2 (0 : Fin 1) q) := by
  obtain ⟨k, hk⟩ := k
  unfold stack
  refine concatenate_apply_piece 0 [⟨S1x256, r 0⟩, ⟨S1x256, r 1⟩, ⟨S1x256, r 2⟩, ⟨S1x256, r 3⟩, ⟨S1x256, r 4⟩, ⟨S1x256, r 5⟩, ⟨S1x256, r 6⟩,
    ⟨S1x256, r 7⟩, ⟨S1x256, r 8⟩, ⟨S1x256, r 9⟩, ⟨S1x256, r 10⟩, ⟨S1x256, r 11⟩, ⟨S1x256, r 12⟩, ⟨S1x256, r 13⟩, ⟨S1x256, r 14⟩,
    ⟨S1x256, r 15⟩] _ (ix2 ⟨k, hk⟩ q) k hk S1x256 (r k) ?_ rfl k ?_ (ix2 (0 : Fin 1) q) ?_ ?_
  · interval_cases k <;> rfl
  · refine (sum_rows _ fun s hs => ?_).trans ?_
    · rw [List.map_take] at hs
      have := List.mem_of_mem_take hs
      simpa only [List.map_cons, List.map_nil, List.mem_cons, List.not_mem_nil, or_false, or_self] using this
    · rw [List.length_map, List.length_take]
      exact Nat.min_eq_left (Nat.le_of_lt hk)
  · intro b hb
    match b with
    | ⟨0, _⟩ => exact absurd rfl hb
    | ⟨1, _⟩ => rfl
  · rfl

variable (q : Fin 256) (hfin : ∀ r, dNum x0 x1 q r < ⊤)
include hfin

theorem dist_fin (p : Fin 128) : ∀ w < 64, (dist x0 x1 w (ix2 p q) : EReal) < ⊤ := fun w hw => by
  rw [dist_apply x0 x1 w hw]; exact hfin _

theorem candV_apply (p : Fin 640) : candV x0 x1 (ix2 p q) = dNum x0 x1 q (cand x0 x1 q p) := by
  refine (five_apply (val x0 x1) _ p q).trans ?_
  refine (val_dist x0 x1 (ix2 (part p) q) (dist_fin x0 x1 q hfin _) (p.val / 128) (by omega)).trans ?_
  exact dist_apply x0 x1 _ (taken_lt ..) _ q

theorem cand_inj (a b : Fin 640) (e : cand x0 x1 q a = cand x0 x1 q b) : a = b := by
  unfold cand at e
  have ha := (part a).isLt
  have hb := (part b).isLt
  have h1 : part a = part b := Fin.ext (by omega)
  rw [h1] at e
  have h2 := taken_inj x0 x1 (ix2 (part b) q) (dist_fin x0 x1 q hfin _) (a.val / 128) (b.val / 128) (by omega) (by omega) (by omega)
  have h3 : a.val % 128 = b.val % 128 := congrArg Fin.val h1
  exact Fin.ext (by omega)

/-- Row `k` of the candidates' selection has place `k` among the candidates; the least left in a round is its value. -/
theorem candRow_at (k : ℕ) (hk : k < 640) :
    At (dNum x0 x1 q) (Finset.univ.image (cand x0 x1 q)) k (candRow x0 x1 k (ix2 (0 : Fin 1) q)).toNat
    ∧ minRow reduces_S640x256_S256 (left broadcasts_S1x256_S640x256 reduces_S640x256_S256 (candV x0 x1) (candI x0 x1) k) (ix2 (0 : Fin 1) q)
      = dNum x0 x1 q (candRow x0 x1 k (ix2 (0 : Fin 1) q)).toNat := by
  have hc := chosen_at (dNum x0 x1 q) (fun p : Fin 640 => candV x0 x1 (ix2 p q)) (fun p : Fin 640 => candI x0 x1 (ix2 p q))
    (fun p => by rw [candI_toNat]; exact (cand_lt x0 x1 p q).trans (by decide))
    (fun a b e => cand_inj x0 x1 q hfin a b (by rw [← candI_toNat, ← candI_toNat]; exact congrArg BitVec.toNat e))
    (fun p => by rw [candI_toNat]; exact candV_apply x0 x1 q hfin p) (fun p => by rw [candV_apply x0 x1 q hfin]; exact hfin _) k hk
  have h : candRow x0 x1 k (ix2 (0 : Fin 1) q)
      = chosen (fun p : Fin 640 => candV x0 x1 (ix2 p q)) (fun p : Fin 640 => candI x0 x1 (ix2 p q)) k :=
    row_apply (n := 640) broadcasts_S1x256_S640x256 reduces_S640x256_S256 (candV x0 x1) (candI x0 x1) q k
  rw [h, minLeft_apply]
  simp only [candI_toNat] at hc
  exact hc

omit hfin in
/-- Where the body finds no bad chain, a chain's fifth candidate is beyond the sixteenth least. -/
theorem lt_of_not_bad (hbad : bad x0 x1 ≠ 1#1) (p : Fin 128) : (last x0 x1 (ix2 (0 : Fin 1) q) : EReal) < val x0 x1 4 (ix2 p q) := by
  by_contra hn
  exact hbad (some_le (val x0 x1 4) (last x0 x1) p q (not_lt.1 hn))

/-- What the body stores in row `k` of a column has place `k` among all rows. -/
theorem stored_at (k : Fin 16) : At (dNum x0 x1 q) (Finset.range 8192) k.val (stored x0 x1 (ix2 k q)).toNat := by
  unfold stored
  by_cases hbad : bad x0 x1 = 1#1
  · rw [if_pos hbad, stack_apply]
    exact allRow_at x0 x1 q hfin k.val k.isLt
  · rw [if_neg hbad, stack_apply]
    obtain ⟨hat, hv⟩ := candRow_at x0 x1 q hfin k.val (by omega)
    obtain ⟨hat15, hv15⟩ := candRow_at x0 x1 q hfin 15 (by omega)
    refine hat.of_subset ?_ (last x0 x1 (ix2 (0 : Fin 1) q)) ?_ ?_
    · intro a ha
      obtain ⟨p, -, rfl⟩ := Finset.mem_image.1 ha
      exact Finset.mem_range.2 (cand_lt x0 x1 p q)
    · refine (hat.le hat15 (by omega)).trans (le_of_eq ?_)
      exact hv15.symm
    · intro a ha hna
      have ha := Finset.mem_range.1 ha
      have h1 := lt_of_not_bad x0 x1 q hbad ⟨a % 128, Nat.mod_lt _ (by decide)⟩
      refine h1.trans_le ?_
      have h2 := val_le_dist x0 x1 (ix2 (⟨a % 128, Nat.mod_lt _ (by decide)⟩ : Fin 128) q) 4 (a / 128) (by omega) (fun i hi e => hna ?_)
      · rw [dist_apply x0 x1 _ (by omega)] at h2
        have e : 128 * (a / 128) + a % 128 = a := by omega
        simp only [e] at h2
        exact h2
      · refine Finset.mem_image.2 ⟨⟨128 * i + a % 128, by omega⟩, Finset.mem_univ _, ?_⟩
        have e1 : (128 * i + a % 128) / 128 = i := by omega
        have e2 : part ⟨128 * i + a % 128, by omega⟩ = ⟨a % 128, Nat.mod_lt _ (by decide)⟩ :=
          Fin.ext (show (128 * i + a % 128) % 128 = a % 128 by omega)
        show 128 * taken x0 x1 (ix2 (part ⟨128 * i + a % 128, _⟩) q) ((128 * i + a % 128) / 128) + (part ⟨128 * i + a % 128, _⟩).val = a
        rw [e1, e2, ← e]
        show 128 * (a / 128) + a % 128 = a
        omega

end Cert.KernelIdeal.Points
end
-- ==== Proof.Sorted.lean ====
/- A stable sort by value lists the positions in the order of value, the lower position first on a tie. -/
module

public import proofs.«01_k».proof.Proof.Rank
public import Idealize.ShloMosaic.PureOps.ShapeOps
public import Idealize.ShloMosaic.Lib.SortFacts

@[expose] public section

noncomputable section

namespace Cert.Nearest

open Classical Idealize.ShloMosaic

variable {n : ℕ} (d : ℕ → EReal)

theorem trichotomy (a b : ℕ) : Before d a b ∨ a = b ∨ Before d b a := by
  by_cases h : a = b
  · exact .inr (.inl h)
  · exact (Before.total (d := d) h).imp_right .inr

/-- Comes before, as a boolean. -/
def earlier (a b : Fin n) : Bool := decide (Before d a b)

theorem earlier_false {a b : Fin n} : earlier d a b = false ↔ ¬ Before d a b := decide_eq_false_iff_not

/-- On a list of increasing positions the stable sort by value is the sort by value and position. -/
theorem stableSort_earlier (R : Fin n → Fin n → Bool) (hR : ∀ a b, R a b = decide (d a < d b)) (l : List (Fin n)) (hl : l.Pairwise (· < ·)) :
    stableSort R l = stableSort (earlier d) l := by
  induction l with
  | nil => rfl
  | cons a l ih =>
    obtain ⟨ha, hl⟩ := List.pairwise_cons.1 hl
    unfold stableSort
    rw [ih hl]
    refine insertBefore_congr _ _ _ _ fun b hb => ?_
    have hab := ha b ((perm_stableSort _ _).mem_iff.1 hb)
    rw [hR]
    unfold earlier Before
    refine decide_eq_decide.2 ⟨.inl, ?_⟩
    rintro (h | ⟨-, h⟩)
    · exact h
    · exact absurd hab (not_lt.2 (le_of_lt h))

theorem sortedFrom_earlier (R : Fin n → Fin n → Bool) (hR : ∀ a b, R a b = decide (d a < d b)) : sortedFrom R = sortedFrom (earlier d) := by
  funext k
  unfold sortedFrom
  exact List.get_of_eq (stableSort_earlier d R hR _ (List.pairwise_lt_finRange n)) _

/-- The `k`-th position of the sort has place `k`. -/
theorem sortedFrom_at (R : Fin n → Fin n → Bool) (hR : ∀ a b, R a b = decide (d a < d b)) (k : Fin n) :
    At d (Finset.range n) k.val (sortedFrom R k).val := by
  rw [sortedFrom_earlier d R hR]
  have h := at_of_rounds (d := d) (Finset.range n) n (fun k => if h : k < n then (sortedFrom (earlier d) ⟨k, h⟩).val else 0) ?_ ?_ ?_ k.val k.isLt
  · simpa only [dif_pos k.isLt] using h
  · intro k hk
    simp only [dif_pos hk]
    exact Finset.mem_range.2 (Fin.isLt _)
  · intro k hk j hj e
    simp only [dif_pos hk, dif_pos (hj.trans hk)] at e
    have := congrArg Fin.val (sortedFrom_injective _ (Fin.ext e))
    simp only at this
    omega
  · intro k hk a ha hne
    obtain ⟨k', e⟩ := sortedFrom_surjective (earlier d) ⟨a, Finset.mem_range.1 ha⟩
    have ea : a = (sortedFrom (earlier d) k').val := congrArg Fin.val e.symm
    simp only [dif_pos hk]
    rcases Nat.lt_trichotomy k'.val k with h | h | h
    · exact absurd (by simp only [dif_pos k'.isLt]; exact ea) (hne k'.val h)
    · left; subst h; exact ea
    · right
      have hni := sortedFrom_noInversion (earlier d) (earlier d)
        (fun a b h => (earlier_false d).2 fun h' => Before.irrefl _ ((of_decide_eq_true h : Before d a b).trans h'))
        (fun _ _ h => h)
        (fun a b c h1 h2 => (earlier_false d).2 fun h3 => by
          rw [earlier_false] at h1 h2
          rcases trichotomy d a.val b.val with h | h | h
          · exact h1 h
          · rw [h] at h3; exact h2 h3
          · exact h2 (h.trans h3))
        ⟨k, hk⟩ k' h
      rw [earlier_false] at hni
      rw [ea]
      rcases trichotomy d (sortedFrom (earlier d) ⟨k, hk⟩).val (sortedFrom (earlier d) k').val with h' | h' | h'
      · exact h'
      · have := congrArg Fin.val (sortedFrom_injective _ (Fin.ext h'))
        simp only at this
        omega
      · exact absurd h' hni

end Cert.Nearest
end
-- ==== Proof.Reference.lean ====
/- The reference's top-k at an index: the word at row `i` and place `k` is the row of place `k` in the order of distance from
   row `i`, the lower row first on a tie. -/
module

public import proofs.«01_k».proof.Proof.Gen.ReferenceIdeal.Run
public import proofs.«01_k».proof.Proof.Sorted
public import Idealize.ShloMosaic.Lib.IdealHost
public import Idealize.ShloMosaic.Lib.Pipeline.Value

@[expose] public section

noncomputable section

namespace Cert.ReferenceIdeal.Places

open Cert.ReferenceIdeal Cert.ReferenceIdeal.Gen Cert.Nearest Idealize.ShloMosaic Idealize.ShloMosaic.ValueIdx

/-- The squared distance between rows `i` and `r`. -/
def sq (p : FVec Ideal S8192x3 .f32) (i r : Fin 8192) : EReal :=
  ∑ c : Fin 3, (p (ix2 i c) - p (ix2 r c) : EReal) * (p (ix2 i c) - p (ix2 r c))

/-- The squared distance from row `i` to the row of a number. -/
def sqNum (p : FVec Ideal S8192x3 .f32) (i : Fin 8192) (r : ℕ) : EReal := sq p i ⟨r % 8192, Nat.mod_lt _ (by decide)⟩

/-- The first operand of the reference's difference. -/
abbrev left (p : FVec Ideal S8192x3 .f32) : FVec Ideal S8192x8192x3 .f32 :=
  broadcastInDim S8192x8192x3 ![0, 1, 2] bcast_S8192x1x3_S8192x8192x3_0_1_2 (broadcastInDim S8192x1x3 ![0, 2] bcast_S8192x3_S8192x1x3_0_2 p)

/-- The second operand of the reference's difference. -/
abbrev right (p : FVec Ideal S8192x3 .f32) : FVec Ideal S8192x8192x3 .f32 :=
  broadcastInDim S8192x8192x3 ![0, 1, 2] bcast_S1x8192x3_S8192x8192x3_0_1_2 (broadcastInDim S1x8192x3 ![1, 2] bcast_S8192x3_S1x8192x3_1_2 p)

/-- The reference's distances. -/
abbrev dists (p : FVec Ideal S8192x3 .f32) : FVec Ideal S8192x8192 .f32 :=
  Host.reduceAdd (mulf (subf (left p) (right p)) (subf (left p) (right p))) (constant S_ .f32 0x00000000#32) reducesTo_S8192x8192x3_S8192x8192_d2 h_S_

theorem left_apply (p : FVec Ideal S8192x3 .f32) (i r : Fin 8192) (c : Fin 3) : left p (ix3 i r c) = p (ix2 i c) := by
  refine (broadcastInDim_apply _ _ _ (ix3 i r c) (ix3 i (0 : Fin 1) c) ?_).trans ?_
  · intro a
    match a with
    | ⟨0, _⟩ => rfl
    | ⟨1, _⟩ => rfl
    | ⟨2, _⟩ => rfl
  · refine broadcastInDim_apply _ _ _ (ix3 i (0 : Fin 1) c) (ix2 i c) ?_
    intro a
    match a with
    | ⟨0, _⟩ => rfl
    | ⟨1, _⟩ => rfl

theorem right_apply (p : FVec Ideal S8192x3 .f32) (i r : Fin 8192) (c : Fin 3) : right p (ix3 i r c) = p (ix2 r c) := by
  refine (broadcastInDim_apply _ _ _ (ix3 i r c) (ix3 (0 : Fin 1) r c) ?_).trans ?_
  · intro a
    match a with
    | ⟨0, _⟩ => rfl
    | ⟨1, _⟩ => rfl
    | ⟨2, _⟩ => rfl
  · refine broadcastInDim_apply _ _ _ (ix3 (0 : Fin 1) r c) (ix2 r c) ?_
    intro a
    match a with
    | ⟨0, _⟩ => rfl
    | ⟨1, _⟩ => rfl

/-- A squared difference of the reference's. -/
theorem square_apply (p : FVec Ideal S8192x3 .f32) (i r : Fin 8192) (c : Fin 3) :
    mulf (subf (left p) (right p)) (subf (left p) (right p)) (ix3 i r c)
      = (p (ix2 i c) - p (ix2 r c) : EReal) * (p (ix2 i c) - p (ix2 r c)) := by
  show (left p (ix3 i r c) - right p (ix3 i r c) : EReal) * (left p (ix3 i r c) - right p (ix3 i r c)) = _
  rw [left_apply, right_apply]

theorem reduces_last : S8192x8192x3.Reduces [2] S8192x8192 := by decide

/-- The reference's distance of a pair of rows. -/
theorem dists_apply (p : FVec Ideal S8192x3 .f32) (i r : Fin 8192) : dists p (ix2 i r) = sq p i r := by
  refine (hostReduceAdd_apply _ _ _ _ _).trans ?_
  refine (Ideal.hostReduceAdd_single _ reduces_last _ _ _).trans ?_
  unfold sq
  have h0 : (constant S_ .f32 0x00000000#32 : FVec Ideal S_ .f32) (Shape.Idx.first h_S_) = (0 : EReal) := Ideal.ofBits_zero_f32
  rw [h0, zero_add]
  refine Finset.sum_congr rfl fun c _ => ?_
  refine Eq.trans (congrArg _ ?_) (square_apply p i r c)
  exact funext fun a => match a with | ⟨0, _⟩ => rfl | ⟨1, _⟩ => rfl | ⟨2, _⟩ => rfl

/-- Greater among the negations is less. -/
theorem gt_neg (a b : EReal) : (Ideal.cmp .ogt (-a) (-b) == 1#1) = decide (a < b) := by
  unfold Ideal.cmp
  show (BitVec.ofBool (decide (-b < -a)) == 1#1) = _
  rw [decide_eq_decide.2 (EReal.neg_lt_neg_iff (a := b) (b := a))]
  cases decide (a < b) <;> rfl

/-- The order of row `i`'s entries by their negations. -/
abbrev less (D : FVec Ideal S8192x8192 .f32) (j : S8192x8192.Idx) (a b : Fin 8192) : Bool :=
  FloatOps.cmpfTotal .gt (Host.negf D (j.along 1 a)) (Host.negf D (j.along 1 b)) == 1#1

theorem along_eq (i j a : Fin 8192) : Shape.Idx.along (ix2 i j : S8192x8192.Idx) 1 a = ix2 i a :=
  Shape.idx_ext₂ (n := ![8192, 8192]) rfl rfl

theorem less_eq (D : FVec Ideal S8192x8192 .f32) (i j : Fin 8192) (a b : Fin 8192) :
    less D (ix2 i j) a b = decide ((D (ix2 i a) : EReal) < D (ix2 i b)) := by
  unfold less
  rw [along_eq, along_eq]
  exact gt_neg _ _

/-- The top-k's word is the position the sort lists at its place. -/
theorem topK_word (D : FVec Ideal S8192x8192 .f32) (i : Fin 8192) (k : Fin 16) (k' : Fin 8192) (hk : k'.val = k.val) :
    (Host.topK S8192x16 1 (FloatOps.cmpfTotal .gt) (Host.negf D) sliceFits_S8192x8192_S8192x16).2 (ix2 i k)
      = BitVec.ofNat 32 (sortedFrom (less D (ix2 i k')) k').val := by
  have hi : (fun i : S8192x8192.Idx => if hd : 1 < S8192x8192.rank then iotaInDim S8192x8192 32 ⟨1, hd⟩ i else 0#32) = iotaInDim S8192x8192 32 1 :=
    funext fun _ => dif_pos _
  unfold Host.topK
  rw [hi]
  dsimp only
  refine (extractStridedSlice_apply (fun _ => 0) _ sliceFits_S8192x8192_S8192x16 (ix2 i k) (ix2 i k') ?_).trans ?_
  · intro a
    match a with
    | ⟨0, _⟩ => exact (Nat.zero_add _).symm
    | ⟨1, _⟩ => exact hk.trans (Nat.zero_add _).symm
  unfold Host.sort2
  rw [dif_pos (show 1 < S8192x8192.rank from Nat.lt_succ_self 1)]
  refine (congrArg (iotaInDim S8192x8192 32 1) (along_eq i k' (sortedFrom (less D (ix2 i k')) k'))).trans ?_
  generalize sortedFrom (less D (ix2 i k')) k' = q
  exact iotaInDim_apply _ _ _

/-- The place of the reference's word. -/
theorem topK_at (p : FVec Ideal S8192x3 .f32) (i : Fin 8192) (k : Fin 16) :
    At (sqNum p i) (Finset.range 8192) k.val
      ((Host.topK S8192x16 1 (FloatOps.cmpfTotal .gt) (Host.negf (dists p)) sliceFits_S8192x8192_S8192x16).2 (ix2 i k)).toNat := by
  have hD := dists_apply p
  generalize dists p = D at hD ⊢
  have hs : ∀ a : Fin 8192, sqNum p i a.val = sq p i a := fun a => by
    unfold sqNum
    congr 1
    exact Fin.ext (Nat.mod_eq_of_lt a.isLt)
  have hR : ∀ a b : Fin 8192, less D (ix2 i (⟨k.val, by omega⟩ : Fin 8192)) a b = decide (sqNum p i a.val < sqNum p i b.val) := by
    intro a b
    rw [less_eq, hD, hD, hs, hs]
  have h := sortedFrom_at (sqNum p i) _ hR ⟨k.val, by omega⟩
  rw [topK_word D i k ⟨k.val, by omega⟩ rfl, BitVec.toNat_ofNat, Nat.mod_eq_of_lt (lt_of_lt_of_le (Fin.isLt _) (by norm_num))]
  exact h

end Cert.ReferenceIdeal.Places
end
-- ==== Proof.Agree.lean ====
/- On finite points the block the kernel's body stores holds the words of the reference's top-k. -/
module

public import proofs.«01_k».proof.Proof.Candidates
public import proofs.«01_k».proof.Proof.Reference

@[expose] public section

noncomputable section

namespace Cert.Agree

open Cert.Nearest Cert.ReferenceIdeal.Places Idealize.ShloMosaic Idealize.ShloMosaic.ValueIdx

variable (p : FVec Ideal Cert.ReferenceIdeal.S8192x3 .f32)

/-- Every coordinate is a real number. -/
def Finite : Prop := ∀ (i : Fin 8192) (c : Fin 3), ∃ a : ℝ, (p (ix2 i c) : EReal) = (a : EReal)

theorem real_of_abs_lt {a : EReal} (h : max a (-a) < ⊤) : ∃ x : ℝ, a = (x : EReal) := by
  induction a with
  | bot => exact absurd h (by simp)
  | top => exact absurd h (by simp)
  | coe x => exact ⟨x, rfl⟩

variable {p}

/-- A coordinate's part of the distance does not depend on the order of the difference, and is a real number. -/
theorem square_comm (h : Finite p) (i r : Fin 8192) (c : Fin 3) :
    ∃ x : ℝ, ((p (ix2 r c) : EReal) - p (ix2 i c)) * (p (ix2 r c) - p (ix2 i c)) = (x : EReal)
      ∧ ((p (ix2 i c) : EReal) - p (ix2 r c)) * (p (ix2 i c) - p (ix2 r c)) = (x : EReal) := by
  obtain ⟨a, ha⟩ := h i c
  obtain ⟨b, hb⟩ := h r c
  refine ⟨(b - a) * (b - a), ?_, ?_⟩
  · rw [ha, hb, ← EReal.coe_sub, ← EReal.coe_mul]
  · rw [ha, hb, ← EReal.coe_sub, ← EReal.coe_mul, show (a - b) * (a - b) = (b - a) * (b - a) by ring]

theorem sq_real (h : Finite p) (i r : Fin 8192) : ∃ x : ℝ, sq p i r = (x : EReal) := by
  obtain ⟨x, -, hx⟩ := square_comm h i r 0
  obtain ⟨y, -, hy⟩ := square_comm h i r 1
  obtain ⟨z, -, hz⟩ := square_comm h i r 2
  refine ⟨x + y + z, ?_⟩
  unfold Cert.ReferenceIdeal.Places.sq
  rw [Fin.sum_univ_three, hx, hy, hz, EReal.coe_add, EReal.coe_add]

/-- The kernel's distance from a row to a column that holds point `i` is the reference's distance from `i` to that row. -/
theorem distance (h : Finite p) (x1 : Vec Ideal Cert.KernelIdeal.S8x256 .f32) (q : Fin 256) (i : Fin 8192)
    (hx : ∀ c : Fin 3, x1 (ix2 (⟨c.val, by omega⟩ : Fin 8) q) = p (ix2 i c)) : Cert.KernelIdeal.Points.dNum p x1 q = sqNum p i := by
  funext r
  unfold Cert.KernelIdeal.Points.dNum sqNum
  generalize (⟨r % 8192, _⟩ : Fin 8192) = r
  have hg : ∀ c : Fin 3, Cert.KernelIdeal.Points.gap p x1 q r c * Cert.KernelIdeal.Points.gap p x1 q r c
      = ((p (ix2 i c) : EReal) - p (ix2 r c)) * (p (ix2 i c) - p (ix2 r c)) := fun c => by
    unfold Cert.KernelIdeal.Points.gap
    rw [hx]
    obtain ⟨x, h1, h2⟩ := square_comm h i r c
    exact h1.trans h2.symm
  unfold Cert.KernelIdeal.Points.dRow Cert.ReferenceIdeal.Places.sq
  rw [Fin.sum_univ_three, hg, hg, hg]

/-- The stored block holds the reference's words. -/
theorem stored_eq (h : Finite p) (x1 : Vec Ideal Cert.KernelIdeal.S8x256 .f32) (q : Fin 256) (i : Fin 8192)
    (hx : ∀ c : Fin 3, x1 (ix2 (⟨c.val, by omega⟩ : Fin 8) q) = p (ix2 i c)) (k : Fin 16) :
    Cert.KernelIdeal.Model.stored p x1 (ix2 k q)
      = (Host.topK Cert.ReferenceIdeal.S8192x16 1 (FloatOps.cmpfTotal .gt) (Host.negf (dists p))
          Cert.ReferenceIdeal.Gen.sliceFits_S8192x8192_S8192x16).2 (ix2 i k) := by
  have hd := distance h x1 q i hx
  have h1 := Cert.KernelIdeal.Points.stored_at p x1 q (fun r => by
    rw [hd]
    obtain ⟨x, hx⟩ := sq_real h i ⟨r % 8192, Nat.mod_lt _ (by decide)⟩
    unfold sqNum
    rw [hx]
    exact EReal.coe_lt_top x) k
  rw [hd] at h1
  exact BitVec.eq_of_toNat_eq (h1.unique (topK_at p i k))

end Cert.Agree
end
-- ==== Proof.Output.lean ====
/- The array the launch of the `KernelIdeal` program leaves, over the reals: at each place the reference's row. -/
module

public import proofs.«01_k».proof.Proof.KernelIdealData
public import proofs.«01_k».proof.Proof.Agree

@[expose] public section

set_option maxRecDepth 16384

noncomputable section

namespace Cert.KernelIdeal.Hand

open Cert.KernelIdeal Cert.KernelIdeal.Gen Idealize.ShloMosaic Idealize.ShloMosaic.TcCoe Idealize.ShloMosaic.Tactic
open Idealize.SL Idealize.SL.RA Idealize.SL.Sem
open Idealize.ShloMosaic.Pipeline (Dat Cfg Window)

variable (m : (ℓ : Loc nD τ sig) → Buf (Elt Ideal) ℓ)

/-- The reference's table of rows: for each point the sixteen nearest, in order. -/
abbrev nearest (p : FVec Ideal S8192x3 .f32) : IVec S8192x16 32 :=
  (Host.topK Cert.ReferenceIdeal.S8192x16 1 (FloatOps.cmpfTotal .gt) (Host.negf (Cert.ReferenceIdeal.Places.dists p))
    Cert.ReferenceIdeal.Gen.sliceFits_S8192x8192_S8192x16).2

/-- What the body stores at point `t`, at place `k` of column `q`. -/
theorem stored_block (c : Dev nD) (h : Cert.Agree.Finite (m ((c.tc : Thread nD τ).loc main_arg0))) (t : Fin cfg0.N)
    (k : Fin 16) (q : Fin 256) (i : Fin 8192) (hi : i.val = 256 * t.val + q.val) :
    Model.stored (F := Ideal) (iblk m c 0 t) (iblk m c 1 t) (ValueIdx.ix2 k q)
      = nearest (m ((c.tc : Thread nD τ).loc main_arg0)) (ValueIdx.ix2 i k) := by
  rw [points_block]
  exact Cert.Agree.stored_eq h (iblk m c 1 t) q i (fun a => columns_block m c t a q i hi) k

/-- The same with the block's index `y` and the array's index `z` it goes to. -/
theorem stored_index (c : Dev nD) (h : Cert.Agree.Finite (m ((c.tc : Thread nD τ).loc main_arg0))) (t : Fin cfg0.N)
    (y : S16x256.Idx) (z : S16x8192.Idx) (h0 : (z 0).val = (y 0).val) (h1 : (z 1).val = t.val * 256 + (y 1).val) :
    Model.stored (F := Ideal) (iblk m c 0 t) (iblk m c 1 t) y
      = nearest (m ((c.tc : Thread nD τ).loc main_arg0)) (ValueIdx.ix2 (z 1) (z 0)) := by
  have hz : z 0 = y 0 := Fin.ext h0
  rw [hz]
  exact (congrArg _ (ValueIdx.eq_ix2 y)).trans (stored_block m c h t (y 0) (y 1) (z 1) (by rw [h1, Nat.mul_comm]))

/-- The launch's output array. -/
theorem output (c : Dev nD) (h : Cert.Agree.Finite (m ((c.tc : Thread nD τ).loc main_arg0))) :
    (dats m 0 c).arrAt 2 cfg0.N
      = fun y : S16x8192.Idx => nearest (m ((c.tc : Thread nD τ).loc main_arg0)) (ValueIdx.ix2 (y 1) (y 0)) := by
  refine (dats m 0 c).arrAt_eq_of_covers 2 _ (by decide +kernel) fun t hf y => ?_
  blk_simp
  rw [dats_after_2]
  exact stored_index m c h t y ((win0_2.blk t).view.emb y) (by blk_simp [index_2 t]) (by blk_simp [index_2 t])

end Cert.KernelIdeal.Hand
end
-- ==== Proof.Results.lean ====
/- The two results of the `KernelIdeal` program over the reals, in the reference's terms. -/
module

public import proofs.«01_k».proof.Pre_finite
public import proofs.«01_k».proof.Proof.Output

@[expose] public section

set_option maxRecDepth 16384

noncomputable section

namespace Cert.KernelIdeal.Hand

open Cert.KernelIdeal Cert.KernelIdeal.Gen Idealize.ShloMosaic Idealize.ShloMosaic.TcCoe Idealize.ShloMosaic.Tactic
open Idealize.SL Idealize.SL.RA Idealize.SL.Sem
open Idealize.ShloMosaic.Pipeline (Dat Cfg Window)

variable (m : (ℓ : Loc nD τ sig) → Buf (Elt Ideal) ℓ)

/-- The contents of the arrays when the launch has ended. -/
abbrev ended (c : Dev nD) : Valuation τ sig (Elt Ideal) :=
  Pipeline.withArrays spec0 c (V0 m c) fun w => (dats m 0 c).arrAt w cfg0.N

theorem ended_mask (c : Dev nD) : ended m c (Proc.devRef .tc main_arg1) = m ((c.tc : Thread nD τ).loc main_arg1) :=
  (Pipeline.withArrays_of_ne _ c (V0 m c) _ main_arg1 (by exact (by decide : ∀ w, Pipeline.arrRef spec0 w ≠ main_arg1))).trans
    (V_main_arg1 m c)

theorem ended_output (c : Dev nD) : ended m c (Proc.devRef .tc main_call0_v4) = (dats m 0 c).arrAt 2 cfg0.N :=
  Pipeline.withArrays_arr spec0 launch0.win.arr_inj c (V0 m c) _ 2

/-- The first result: of each active point the nearest points' rows, of the others the last row. -/
theorem first (c : Dev nD) (h : Cert.Agree.Finite (m ((c.tc : Thread nD τ).loc main_arg0))) :
    Pipeline.afterTail₀ cfgs (dats m) 0 (V0 m) [hostOps1] c main_v0_0
      = shapeCast S131072 (select (Lines.mask (m ((c.tc : Thread nD τ).loc main_arg1)))
          (nearest (m ((c.tc : Thread nD τ).loc main_arg0))) Lines.lastRow) shapeCasts_S8192x16_S131072 := by
  refine (Lines.first_result (ended m c)).trans ?_
  have ht : transpose S8192x16 [1, 0] (ended m c (Proc.devRef .tc main_call0_v4)) transposes_S16x8192_S8192x16_1_0
      = nearest (m ((c.tc : Thread nD τ).loc main_arg0)) := by
    rw [ended_output, output m c h]
    funext y
    refine (transpose_apply _ _ _ y (ValueIdx.ix2 (y 1) (y 0)) fun a => ?_).trans ?_
    · match a with
      | ⟨0, _⟩ => rfl
      | ⟨1, _⟩ => rfl
    · exact congrArg _ (ValueIdx.eq_ix2 y).symm
  rw [ended_mask, ht]

/-- The second result: of each active point its own row sixteen times, of the others the last row. -/
theorem second (c : Dev nD) :
    Pipeline.afterTail₀ cfgs (dats m) 0 (V0 m) [hostOps1] c main_v0_1
      = shapeCast S131072 (select (Lines.mask (m ((c.tc : Thread nD τ).loc main_arg1))) Lines.ownRow Lines.lastRow)
          shapeCasts_S8192x16_S131072 := by
  refine (Lines.second_result (ended m c)).trans ?_
  rw [ended_mask]

/-- From a run to the proof data's contents, the two results and the arguments. -/
theorem values (ρ : Dev nD → PrngReg) (h : ∀ c : Dev nD, Cert.Agree.Finite (m ((c.tc : Thread nD τ).loc main_arg0)))
    (hrun : θ_run defs (onTc (τ := τ) (main (F := Ideal))) (s₀ m ρ)
      (Pipeline.FramePost cfgs (dats m) 0 (Pipeline.afterTail₀ cfgs (dats m) 0 (V0 m) [hostOps1]))) :
    θ_run defs (onTc (τ := τ) (main (F := Ideal))) (s₀ m ρ) fun r => ∀ c : Dev nD,
      r.2.mem ((c.tc : Thread nD τ).loc main_v0_0)
          = shapeCast S131072 (select (Lines.mask (m ((c.tc : Thread nD τ).loc main_arg1)))
              (nearest (m ((c.tc : Thread nD τ).loc main_arg0))) Lines.lastRow) shapeCasts_S8192x16_S131072
        ∧ r.2.mem ((c.tc : Thread nD τ).loc main_v0_1)
          = shapeCast S131072 (select (Lines.mask (m ((c.tc : Thread nD τ).loc main_arg1))) Lines.ownRow Lines.lastRow)
              shapeCasts_S8192x16_S131072
        ∧ r.2.mem ((c.tc : Thread nD τ).loc main_arg0) = m ((c.tc : Thread nD τ).loc main_arg0)
        ∧ r.2.mem ((c.tc : Thread nD τ).loc main_arg1) = m ((c.tc : Thread nD τ).loc main_arg1) := by
  refine (θ_run defs _ _).mono (fun r hr c => ?_) (θ_run_and hrun (frame_of m ρ (dats m) (dats_A m) hrun))
  exact ⟨((hr.1 c).2 main_v0_0 (Pipeline.mem_restRefs_of main_v0_0 (by decide) (by decide))).trans (first m c (h c)),
    ((hr.1 c).2 main_v0_1 (Pipeline.mem_restRefs_of main_v0_1 (by decide) (by decide))).trans (second m c),
    (hr.2 c).1, (hr.2 c).2⟩

/-- The precondition's side condition. -/
theorem pre_facts : Cert.Pre_finite.Facts := ⟨by decide⟩

/-- Under the precondition every coordinate is a real number. -/
theorem finite_of_pre [Cert.Pre_finite.Facts] (p : FVec Ideal Cert.Pre_finite.S8192x3 .f32) (a : IVec Cert.Pre_finite.S8192 1)
    (h : Cert.Pre_finite.fn (F := Ideal) p a = fun _ => 1#1) : Cert.Agree.Finite p := by
  intro i c
  refine Cert.Agree.real_of_abs_lt ?_
  have e : BitVec.ofBool (decide (max (p (ValueIdx.ix2 i c) : EReal) (-p (ValueIdx.ix2 i c)) < (Model.inf : Ideal .f32))) = 1#1 :=
    congrFun h (ValueIdx.ix2 i c)
  have := Cert.KernelIdeal.Tournament.ofBool_eq_one.1 e
  rwa [Cert.KernelIdeal.Tournament.ofBits_inf] at this

end Cert.KernelIdeal.Hand
end
-- ==== Proof.Algebraic.lean ====
/- The kernel and the reference over the reals: from a run of the kernel to the proof data's contents, equal results. -/
module

public import proofs.«01_k».proof.Defs
public import proofs.«01_k».proof.Proof.Results
public import proofs.«01_k».proof.Proof.Gen.ReferenceIdeal.Run

@[expose] public section

set_option maxRecDepth 16384

noncomputable section

namespace Cert.Agree

open Idealize.ShloMosaic Idealize.ShloMosaic.TcCoe Idealize.SL.Sem

/-- If every run of the kernel ends with the arrays as the proof data say, then on points with finite coordinates the
    kernel and the reference end with equal results, both of them, and unchanged arguments. -/
theorem algebraic_of_run
    (hrun : ∀ (m : (ℓ : Loc Cert.KernelIdeal.nD Cert.KernelIdeal.τ Cert.KernelIdeal.sig) → Buf (Elt Ideal) ℓ)
      (ρ : Dev Cert.KernelIdeal.nD → PrngReg),
      θ_run Cert.KernelIdeal.defs (onTc (τ := Cert.KernelIdeal.τ) (Cert.KernelIdeal.main (F := Ideal))) ⟨m, fun _ => 0, ρ⟩
        (Pipeline.FramePost Cert.KernelIdeal.cfgs (Cert.KernelIdeal.Hand.dats m) 0
          (Pipeline.afterTail₀ Cert.KernelIdeal.cfgs (Cert.KernelIdeal.Hand.dats m) 0 (Cert.KernelIdeal.Gen.V0 m)
            [Cert.KernelIdeal.Gen.hostOps1]))) :
    Cert.algebraic_KernelIdeal_ReferenceIdeal_pre_finite (hKernelIdeal := Cert.KernelIdeal.Gen.facts)
      (hReferenceIdeal := Cert.ReferenceIdeal.Gen.facts) (hPre_finite := Cert.KernelIdeal.Hand.pre_facts) := by
  intro m g m' g' hpre hargs
  have hfin : ∀ c : Dev Cert.KernelIdeal.nD,
      Finite (m ((c.tc : Thread Cert.KernelIdeal.nD Cert.KernelIdeal.τ).loc Cert.KernelIdeal.main_arg0)) := fun c =>
    @Cert.KernelIdeal.Hand.finite_of_pre Cert.KernelIdeal.Hand.pre_facts _ _ (hpre c)
  refine ⟨_, _, Cert.KernelIdeal.Hand.values m g hfin (hrun m g), ?_⟩
  refine (θ_run _ _ _).mono (fun r h c => ?_) (Cert.ReferenceIdeal.Value.run (F := Ideal) m' g')
  have hc := h c
  rw [(hargs c).1, (hargs c).2] at hc
  exact ⟨hc.1, hc.2.1, hc.2.2.1.trans (hargs c).1.symm, hc.2.2.2.trans (hargs c).2.symm⟩

end Cert.Agree
end
-- ==== Proof.lean ====
/- The claims of this directory, assembled: each program ends with its arguments as they began and its semaphores at zero,
   the idealised kernel is the kernel, and on finite points its results are the reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KernelLaunch
public import proofs.«01_k».proof.Proof.KernelIdealLaunch
public import proofs.«01_k».proof.Proof.Algebraic

@[expose] public section

noncomputable section

namespace Cert.Proof

open Idealize.ShloMosaic Idealize.ShloMosaic.TcCoe Idealize.SL.Sem

/-- The reference, run on the host: its arguments end as they began, every semaphore counter at zero. -/
theorem reference_frame : Cert.quiescent_ReferenceIdeal (hReferenceIdeal := Cert.ReferenceIdeal.Gen.facts) := fun m ρ _ =>
  (θ_run _ _ _).mono (fun r h => ⟨fun c => ⟨(h c).2.2.1, (h c).2.2.2⟩, sem_eq_zero_of_no_sems (by decide) r.2⟩)
    (Cert.ReferenceIdeal.Value.run (F := Ideal) m ρ)

/-- All the claims. -/
theorem claim : Cert.Claim :=
  ⟨Cert.Kernel.Gen.facts, Cert.KernelIdeal.Gen.facts, Cert.ReferenceIdeal.Gen.facts, Cert.KernelIdeal.Hand.pre_facts,
    fun m ρ _ => Cert.Kernel.Hand.frame m ρ, fun m ρ _ => Cert.KernelIdeal.Hand.frame m ρ, fun m ρ _ => Cert.KernelIdeal.Hand.frame m ρ,
    reference_frame, fun m ρ _ => reference_frame m ρ trivial, trivial,
    Cert.Agree.algebraic_of_run fun m ρ => Cert.KernelIdeal.Hand.run m ρ⟩

end Cert.Proof
